-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v77) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩
abbrev S256 : Shape := ⟨1, ![256]⟩
abbrev S256x1 : Shape := ⟨2, ![256, 1]⟩
abbrev S512x512 : Shape := ⟨2, ![512, 512]⟩
abbrev S512 : Shape := ⟨1, ![512]⟩
abbrev S1x512 : Shape := ⟨2, ![1, 512]⟩
abbrev S2x128x64x64 : Shape := ⟨4, ![2, 128, 64, 64]⟩
abbrev S2x64x128x64 : Shape := ⟨4, ![2, 64, 128, 64]⟩
abbrev S128x128x64 : Shape := ⟨3, ![128, 128, 64]⟩
abbrev S256x4096 : Shape := ⟨2, ![256, 4096]⟩
abbrev S8192x512 : Shape := ⟨2, ![8192, 512]⟩
abbrev S16x512 : Shape := ⟨2, ![16, 512]⟩
abbrev S8x4 : Shape := ⟨2, ![8, 4]⟩
abbrev S8 : Shape := ⟨1, ![8]⟩
abbrev S7x4 : Shape := ⟨2, ![7, 4]⟩
abbrev S7 : Shape := ⟨1, ![7]⟩
abbrev S1x1 : Shape := ⟨2, ![1, 1]⟩
abbrev S128x512 : Shape := ⟨2, ![128, 512]⟩
abbrev S1 : Shape := ⟨1, ![1]⟩
abbrev S256x256 : Shape := ⟨2, ![256, 256]⟩
abbrev S1x256 : Shape := ⟨2, ![1, 256]⟩
abbrev S32x128x64 : Shape := ⟨3, ![32, 128, 64]⟩
abbrev S128x128 : Shape := ⟨2, ![128, 128]⟩
abbrev S1x128x128 : Shape := ⟨3, ![1, 128, 128]⟩
abbrev S32x128x128 : Shape := ⟨3, ![32, 128, 128]⟩
abbrev S32x128 : Shape := ⟨2, ![32, 128]⟩
abbrev S32x128x1 : Shape := ⟨3, ![32, 128, 1]⟩

abbrev nBuf : Space → Nat
  | .hbm => 85
  | .vmem => 18
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S32x128x64x64, .bf16⟩
  | .hbm, ⟨3, _⟩ => ⟨S32x128x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x512, .bf16⟩
  | .hbm, ⟨12, _⟩ => ⟨S256x512, .bf16⟩
  | .hbm, ⟨13, _⟩ => ⟨S256x512, .bf16⟩
  | .hbm, ⟨14, _⟩ => ⟨S_, .bf16⟩
  | .hbm, ⟨15, _⟩ => ⟨S256, .bf16⟩
  | .hbm, ⟨16, _⟩ => ⟨S_, .bf16⟩
  | .hbm, ⟨17, _⟩ => ⟨S256, .bf16⟩
  | .hbm, ⟨18, _⟩ => ⟨S256, .bf16⟩
  | .hbm, ⟨19, _⟩ => ⟨S_, .bf16⟩
  | .hbm, ⟨20, _⟩ => ⟨S256, .bf16⟩
  | .hbm, ⟨21, _⟩ => ⟨S256, .bf16⟩
  | .hbm, ⟨22, _⟩ => ⟨S256x512, .bf16⟩
  | .hbm, ⟨23, _⟩ => ⟨S_, .bf16⟩
  | .hbm, ⟨24, _⟩ => ⟨S256, .bf16⟩
  | .hbm, ⟨25, _⟩ => ⟨S_, .bf16⟩
  | .hbm, ⟨26, _⟩ => ⟨S256, .bf16⟩
  | .hbm, ⟨27, _⟩ => ⟨S256, .bf16⟩
  | .hbm, ⟨28, _⟩ => ⟨S_, .bf16⟩
  | .hbm, ⟨29, _⟩ => ⟨S256, .bf16⟩
  | .hbm, ⟨30, _⟩ => ⟨S256, .bf16⟩
  | .hbm, ⟨31, _⟩ => ⟨S256x1, .bf16⟩
  | .hbm, ⟨32, _⟩ => ⟨S256x512, .bf16⟩
  | .hbm, ⟨33, _⟩ => ⟨S256x512, .bf16⟩
  | .hbm, ⟨34, _⟩ => ⟨S256x512, .bf16⟩
  | .hbm, ⟨35, _⟩ => ⟨S256x512, .f32⟩
  | .hbm, ⟨36, _⟩ => ⟨S256x512, .i32⟩
  | .hbm, ⟨37, _⟩ => ⟨S256x512, .i8⟩
  | .hbm, ⟨38, _⟩ => ⟨S256x1, .bf16⟩
  | .hbm, ⟨39, _⟩ => ⟨S256x512, .bf16⟩
  | .hbm, ⟨40, _⟩ => ⟨S256x512, .bf16⟩
  | .hbm, ⟨41, _⟩ => ⟨S256x512, .bf16⟩
  | .hbm, ⟨42, _⟩ => ⟨S256x512, .f32⟩
  | .hbm, ⟨43, _⟩ => ⟨S256x512, .i32⟩
  | .hbm, ⟨44, _⟩ => ⟨S256x512, .i8⟩
  | .hbm, ⟨45, _⟩ => ⟨S512x512, .i8⟩
  | .hbm, ⟨46, _⟩ => ⟨S512, .bf16⟩
  | .hbm, ⟨47, _⟩ => ⟨S1x512, .bf16⟩
  | .hbm, ⟨48, _⟩ => ⟨S1x512, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S2x128x64x64, .bf16⟩
  | .hbm, ⟨60, _⟩ => ⟨S2x64x128x64, .bf16⟩
  | .hbm, ⟨61, _⟩ => ⟨S128x128x64, .bf16⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S2x128x64x64, .bf16⟩
  | .hbm, ⟨71, _⟩ => ⟨S2x64x128x64, .bf16⟩
  | .hbm, ⟨72, _⟩ => ⟨S128x128x64, .bf16⟩
  | .hbm, ⟨73, _⟩ => ⟨S256x4096, .bf16⟩
  | .hbm, ⟨74, _⟩ => ⟨S8192x512, .i8⟩
  | .hbm, ⟨75, _⟩ => ⟨S16x512, .f32⟩
  | .hbm, ⟨76, _⟩ => ⟨S2x128x64x64, .bf16⟩
  | .hbm, ⟨77, _⟩ => ⟨S2x64x128x64, .bf16⟩
  | .hbm, ⟨78, _⟩ => ⟨S128x128x64, .bf16⟩
  | .hbm, ⟨79, _⟩ => ⟨S128x128x64, .bf16⟩
  | .hbm, ⟨80, _⟩ => ⟨S2x64x128x64, .bf16⟩
  | .hbm, ⟨81, _⟩ => ⟨S2x128x64x64, .bf16⟩
  | .hbm, ⟨82, _⟩ => ⟨S256x4096, .bf16⟩
  | .hbm, ⟨83, _⟩ => ⟨S256x512, .f32⟩
  | .hbm, ⟨84, _⟩ => ⟨S2x128x512, .f32⟩
  | .local _ .vmem, ⟨0, _⟩ => ⟨S256x512, .bf16⟩
  | .local _ .vmem, ⟨1, _⟩ => ⟨S512x512, .i8⟩
  | .local _ .vmem, ⟨2, _⟩ => ⟨S1x512, .f32⟩
  | .local _ .vmem, ⟨3, _⟩ => ⟨S256x4096, .bf16⟩
  | .local _ .vmem, ⟨4, _⟩ => ⟨S8192x512, .i8⟩
  | .local _ .vmem, ⟨5, _⟩ => ⟨S16x512, .f32⟩
  | .local _ .vmem, ⟨6, _⟩ => ⟨S32x128x64, .bf16⟩
  | .local _ .vmem, ⟨7, _⟩ => ⟨S32x128x64, .bf16⟩
  | .local _ .vmem, ⟨8, _⟩ => ⟨S32x128x64, .bf16⟩
  | .local _ .vmem, ⟨9, _⟩ => ⟨S32x128x64, .bf16⟩
  | .local _ .vmem, ⟨10, _⟩ => ⟨S32x128x64, .bf16⟩
  | .local _ .vmem, ⟨11, _⟩ => ⟨S32x128x64, .bf16⟩
  | .local _ .vmem, ⟨12, _⟩ => ⟨S32x128x64, .bf16⟩
  | .local _ .vmem, ⟨13, _⟩ => ⟨S32x128x64, .bf16⟩
  | .local _ .vmem, ⟨14, _⟩ => ⟨S256x4096, .bf16⟩
  | .local _ .vmem, ⟨15, _⟩ => ⟨S8192x512, .i8⟩
  | .local _ .vmem, ⟨16, _⟩ => ⟨S16x512, .f32⟩
  | .local _ .vmem, ⟨17, _⟩ => ⟨S256x512, .f32⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 168 → Bool
  | ⟨i, _⟩ => dmaSemScopedAt i

abbrev sig : RefSig :=
  (ofTc nBuf bufTy 1 168 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_c_10 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_c_13 : Ref sig .tc := ⟨.hbm, 64, rfl⟩
abbrev main_v45 : Ref sig .tc := ⟨.hbm, 65, rfl⟩
abbrev main_v46 : Ref sig .tc := ⟨.hbm, 66, rfl⟩
abbrev main_c_14 : Ref sig .tc := ⟨.hbm, 67, rfl⟩
abbrev main_c_15 : Ref sig .tc := ⟨.hbm, 68, rfl⟩
abbrev main_c_16 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev main_v50_2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 156
abbrev cc1_sem0_1 : DmaSem sig := 157
abbrev cc1_sem1_0 : DmaSem sig := 158
abbrev cc1_sem1_1 : DmaSem sig := 159
abbrev cc1_sem2_0 : DmaSem sig := 160
abbrev cc1_sem2_1 : DmaSem sig := 161
abbrev cc1_sem3_0 : DmaSem sig := 162
abbrev cc1_sem3_1 : DmaSem sig := 163
abbrev cc2_sem0_0 : DmaSem sig := 164
abbrev cc2_sem1_0 : DmaSem sig := 165
abbrev cc2_sem2_0 : DmaSem sig := 166
abbrev cc2_sem3_0 : DmaSem sig := 167
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_39 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_38 : BitVec 32 := 1#32
  let v82 : BitVec 32 := Scalar.muli v53 c1_i32_38
  let v83 : BitVec 32 := Scalar.addi c0_i32_39 v82
  v83.toNat
def k0_dev2 (d0 : Dev nD) : Nat :=
  let c0_i32_42 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_41 : BitVec 32 := 1#32
  let v84 : BitVec 32 := Scalar.muli v80 c1_i32_41
  let v85 : BitVec 32 := Scalar.addi c0_i32_42 v84
  v85.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v88 : BitVec 32 := Scalar.muli v2 c512_i32
  let v89 : Index := Scalar.indexCast v88
  let c0_45 : Index := 0#32
  ![v89.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v93 : Index := Scalar.indexCast v2
  let c0_48 : Index := 0#32
  ![v93.toNat, 0]
def k0_off3 (d0 : Dev nD) (c0_i32_49 : BitVec 32) (c0_i32_65 : BitVec 32) : Fin 2 → Nat :=
  let c4_i32_63 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let v95 : BitVec 32 := Scalar.subi v26 c0_i32_49
  let c32_i32_50 : BitVec 32 := 32#32
  let v96 : BitVec 32 := Scalar.addi v95 c32_i32_50
  let c16_i32_51 : BitVec 32 := 16#32
  let v97 : BitVec 32 := Scalar.remsi v96 c16_i32_51
  let c0_i32_53 : BitVec 32 := 0#32
  let v99 : BitVec 1 := Scalar.cmpi .sgt v97 c0_i32_53
  let v100 : BitVec 32 := Scalar.extui v99
  let c0_i32_54 : BitVec 32 := 0#32
  let v101 : BitVec 1 := Scalar.cmpi .slt v97 c0_i32_54
  let v102 : BitVec 32 := Scalar.extui v101
  let v103 : BitVec 32 := Scalar.subi v100 v102
  let c4_i32_52 : BitVec 32 := 4#32
  let c0_i32_55 : BitVec 32 := 0#32
  let v104 : BitVec 1 := Scalar.cmpi .sgt c4_i32_52 c0_i32_55
  let v105 : BitVec 32 := Scalar.extui v104
  let c0_i32_56 : BitVec 32 := 0#32
  let v106 : BitVec 1 := Scalar.cmpi .slt c4_i32_52 c0_i32_56
  let v107 : BitVec 32 := Scalar.extui v106
  let v108 : BitVec 32 := Scalar.subi v105 v107
  let v109 : BitVec 1 := Scalar.cmpi .ne v103 v108
  let v110 : BitVec 32 := Scalar.remsi v97 c4_i32_52
  let c0_i32_57 : BitVec 32 := 0#32
  let v111 : BitVec 1 := Scalar.cmpi .ne v110 c0_i32_57
  let v112 : BitVec 1 := Scalar.andi v109 v111
  let v98 : BitVec 32 := Scalar.divsi v97 c4_i32_52
  let c1_i32_58 : BitVec 32 := 1#32
  let v113 : BitVec 32 := Scalar.subi v98 c1_i32_58
  let v114 : BitVec 32 := Scalar.select v112 v113 v98
  let c2_i32_60 : BitVec 32 := 2#32
  let v116 : BitVec 32 := Scalar.remsi v114 c2_i32_60
  let c0_i32_61 : BitVec 32 := 0#32
  let v117 : BitVec 1 := Scalar.cmpi .eq v116 c0_i32_61
  let c4_i32_59 : BitVec 32 := 4#32
  let v115 : BitVec 32 := Scalar.remsi v97 c4_i32_59
  let c3_i32_62 : BitVec 32 := 3#32
  let v118 : BitVec 32 := Scalar.subi c3_i32_62 v115
  let v119 : BitVec 32 := Scalar.select v117 v115 v118
  let v120 : BitVec 32 := Scalar.muli c4_i32_63 v119
  let v121 : BitVec 32 := Scalar.addi v120 v114
  let c512_i32_64 : BitVec 32 := 512#32
  let v122 : BitVec 32 := Scalar.muli v121 c512_i32_64
  let v123 : BitVec 32 := Scalar.addi v122 c0_i32_65
  let c0_i32_72 : BitVec 32 := 0#32
  ![v123.toNat, 0]
def k0_dev3 (d0 : Dev nD) : Nat :=
  let c0_i32_71 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_70 : BitVec 32 := 1#32
  let v124 : BitVec 32 := Scalar.muli v80 c1_i32_70
  let v125 : BitVec 32 := Scalar.addi c0_i32_71 v124
  v125.toNat
def k0_off4 (d0 : Dev nD) (c0_i32_74 : BitVec 32) (c0_i32_90 : BitVec 32) : Fin 2 → Nat :=
  let c4_i32_88 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let v132 : BitVec 32 := Scalar.addi v26 c0_i32_74
  let c32_i32_75 : BitVec 32 := 32#32
  let v133 : BitVec 32 := Scalar.addi v132 c32_i32_75
  let c16_i32_76 : BitVec 32 := 16#32
  let v134 : BitVec 32 := Scalar.remsi v133 c16_i32_76
  let c0_i32_78 : BitVec 32 := 0#32
  let v136 : BitVec 1 := Scalar.cmpi .sgt v134 c0_i32_78
  let v137 : BitVec 32 := Scalar.extui v136
  let c0_i32_79 : BitVec 32 := 0#32
  let v138 : BitVec 1 := Scalar.cmpi .slt v134 c0_i32_79
  let v139 : BitVec 32 := Scalar.extui v138
  let v140 : BitVec 32 := Scalar.subi v137 v139
  let c4_i32_77 : BitVec 32 := 4#32
  let c0_i32_80 : BitVec 32 := 0#32
  let v141 : BitVec 1 := Scalar.cmpi .sgt c4_i32_77 c0_i32_80
  let v142 : BitVec 32 := Scalar.extui v141
  let c0_i32_81 : BitVec 32 := 0#32
  let v143 : BitVec 1 := Scalar.cmpi .slt c4_i32_77 c0_i32_81
  let v144 : BitVec 32 := Scalar.extui v143
  let v145 : BitVec 32 := Scalar.subi v142 v144
  let v146 : BitVec 1 := Scalar.cmpi .ne v140 v145
  let v147 : BitVec 32 := Scalar.remsi v134 c4_i32_77
  let c0_i32_82 : BitVec 32 := 0#32
  let v148 : BitVec 1 := Scalar.cmpi .ne v147 c0_i32_82
  let v149 : BitVec 1 := Scalar.andi v146 v148
  let v135 : BitVec 32 := Scalar.divsi v134 c4_i32_77
  let c1_i32_83 : BitVec 32 := 1#32
  let v150 : BitVec 32 := Scalar.subi v135 c1_i32_83
  let v151 : BitVec 32 := Scalar.select v149 v150 v135
  let c2_i32_85 : BitVec 32 := 2#32
  let v153 : BitVec 32 := Scalar.remsi v151 c2_i32_85
  let c0_i32_86 : BitVec 32 := 0#32
  let v154 : BitVec 1 := Scalar.cmpi .eq v153 c0_i32_86
  let c4_i32_84 : BitVec 32 := 4#32
  let v152 : BitVec 32 := Scalar.remsi v134 c4_i32_84
  let c3_i32_87 : BitVec 32 := 3#32
  let v155 : BitVec 32 := Scalar.subi c3_i32_87 v152
  let v156 : BitVec 32 := Scalar.select v154 v152 v155
  let v157 : BitVec 32 := Scalar.muli c4_i32_88 v156
  let v158 : BitVec 32 := Scalar.addi v157 v151
  let c512_i32_89 : BitVec 32 := 512#32
  let v159 : BitVec 32 := Scalar.muli v158 c512_i32_89
  let v160 : BitVec 32 := Scalar.addi v159 c0_i32_90
  let c0_i32_97 : BitVec 32 := 0#32
  ![v160.toNat, 0]
def k0_dev4 (d0 : Dev nD) : Nat :=
  let c0_i32_96 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_95 : BitVec 32 := 1#32
  let v161 : BitVec 32 := Scalar.muli v53 c1_i32_95
  let v162 : BitVec 32 := Scalar.addi c0_i32_96 v161
  v162.toNat
def k0_dev5 (d0 : Dev nD) : Nat :=
  let c0_i32_120 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_119 : BitVec 32 := 1#32
  let v198 : BitVec 32 := Scalar.muli v80 c1_i32_119
  let v199 : BitVec 32 := Scalar.addi c0_i32_120 v198
  v199.toNat
def k0_dev6 (d0 : Dev nD) : Nat :=
  let c0_i32_145 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_144 : BitVec 32 := 1#32
  let v235 : BitVec 32 := Scalar.muli v53 c1_i32_144
  let v236 : BitVec 32 := Scalar.addi c0_i32_145 v235
  v236.toNat
def k0_dev7 (d0 : Dev nD) : Nat :=
  let c0_i32_169 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_168 : BitVec 32 := 1#32
  let v272 : BitVec 32 := Scalar.muli v80 c1_i32_168
  let v273 : BitVec 32 := Scalar.addi c0_i32_169 v272
  v273.toNat
def k0_dev8 (d0 : Dev nD) : Nat :=
  let c0_i32_194 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_193 : BitVec 32 := 1#32
  let v309 : BitVec 32 := Scalar.muli v53 c1_i32_193
  let v310 : BitVec 32 := Scalar.addi c0_i32_194 v309
  v310.toNat
def k0_dev9 (d0 : Dev nD) : Nat :=
  let c0_i32_218 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_217 : BitVec 32 := 1#32
  let v346 : BitVec 32 := Scalar.muli v80 c1_i32_217
  let v347 : BitVec 32 := Scalar.addi c0_i32_218 v346
  v347.toNat
def k0_dev10 (d0 : Dev nD) : Nat :=
  let c0_i32_243 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_242 : BitVec 32 := 1#32
  let v383 : BitVec 32 := Scalar.muli v53 c1_i32_242
  let v384 : BitVec 32 := Scalar.addi c0_i32_243 v383
  v384.toNat
def k0_off5 (d0 : Dev nD) (c0_i32_246 : BitVec 32) : Fin 2 → Nat :=
  let c4_i32_260 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let v391 : BitVec 32 := Scalar.subi v26 c0_i32_246
  let c32_i32_247 : BitVec 32 := 32#32
  let v392 : BitVec 32 := Scalar.addi v391 c32_i32_247
  let c16_i32_248 : BitVec 32 := 16#32
  let v393 : BitVec 32 := Scalar.remsi v392 c16_i32_248
  let c0_i32_250 : BitVec 32 := 0#32
  let v395 : BitVec 1 := Scalar.cmpi .sgt v393 c0_i32_250
  let v396 : BitVec 32 := Scalar.extui v395
  let c0_i32_251 : BitVec 32 := 0#32
  let v397 : BitVec 1 := Scalar.cmpi .slt v393 c0_i32_251
  let v398 : BitVec 32 := Scalar.extui v397
  let v399 : BitVec 32 := Scalar.subi v396 v398
  let c4_i32_249 : BitVec 32 := 4#32
  let c0_i32_252 : BitVec 32 := 0#32
  let v400 : BitVec 1 := Scalar.cmpi .sgt c4_i32_249 c0_i32_252
  let v401 : BitVec 32 := Scalar.extui v400
  let c0_i32_253 : BitVec 32 := 0#32
  let v402 : BitVec 1 := Scalar.cmpi .slt c4_i32_249 c0_i32_253
  let v403 : BitVec 32 := Scalar.extui v402
  let v404 : BitVec 32 := Scalar.subi v401 v403
  let v405 : BitVec 1 := Scalar.cmpi .ne v399 v404
  let v406 : BitVec 32 := Scalar.remsi v393 c4_i32_249
  let c0_i32_254 : BitVec 32 := 0#32
  let v407 : BitVec 1 := Scalar.cmpi .ne v406 c0_i32_254
  let v408 : BitVec 1 := Scalar.andi v405 v407
  let v394 : BitVec 32 := Scalar.divsi v393 c4_i32_249
  let c1_i32_255 : BitVec 32 := 1#32
  let v409 : BitVec 32 := Scalar.subi v394 c1_i32_255
  let v410 : BitVec 32 := Scalar.select v408 v409 v394
  let c2_i32_257 : BitVec 32 := 2#32
  let v412 : BitVec 32 := Scalar.remsi v410 c2_i32_257
  let c0_i32_258 : BitVec 32 := 0#32
  let v413 : BitVec 1 := Scalar.cmpi .eq v412 c0_i32_258
  let c4_i32_256 : BitVec 32 := 4#32
  let v411 : BitVec 32 := Scalar.remsi v393 c4_i32_256
  let c3_i32_259 : BitVec 32 := 3#32
  let v414 : BitVec 32 := Scalar.subi c3_i32_259 v411
  let v415 : BitVec 32 := Scalar.select v413 v411 v414
  let v416 : BitVec 32 := Scalar.muli c4_i32_260 v415
  let v417 : BitVec 32 := Scalar.addi v416 v410
  let c0_i32_265 : BitVec 32 := 0#32
  ![v417.toNat, 0]
def k0_dev11 (d0 : Dev nD) : Nat :=
  let c0_i32_264 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_263 : BitVec 32 := 1#32
  let v418 : BitVec 32 := Scalar.muli v80 c1_i32_263
  let v419 : BitVec 32 := Scalar.addi c0_i32_264 v418
  v419.toNat
def k0_off6 (d0 : Dev nD) (c0_i32_267 : BitVec 32) : Fin 2 → Nat :=
  let c4_i32_281 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let v426 : BitVec 32 := Scalar.addi v26 c0_i32_267
  let c32_i32_268 : BitVec 32 := 32#32
  let v427 : BitVec 32 := Scalar.addi v426 c32_i32_268
  let c16_i32_269 : BitVec 32 := 16#32
  let v428 : BitVec 32 := Scalar.remsi v427 c16_i32_269
  let c0_i32_271 : BitVec 32 := 0#32
  let v430 : BitVec 1 := Scalar.cmpi .sgt v428 c0_i32_271
  let v431 : BitVec 32 := Scalar.extui v430
  let c0_i32_272 : BitVec 32 := 0#32
  let v432 : BitVec 1 := Scalar.cmpi .slt v428 c0_i32_272
  let v433 : BitVec 32 := Scalar.extui v432
  let v434 : BitVec 32 := Scalar.subi v431 v433
  let c4_i32_270 : BitVec 32 := 4#32
  let c0_i32_273 : BitVec 32 := 0#32
  let v435 : BitVec 1 := Scalar.cmpi .sgt c4_i32_270 c0_i32_273
  let v436 : BitVec 32 := Scalar.extui v435
  let c0_i32_274 : BitVec 32 := 0#32
  let v437 : BitVec 1 := Scalar.cmpi .slt c4_i32_270 c0_i32_274
  let v438 : BitVec 32 := Scalar.extui v437
  let v439 : BitVec 32 := Scalar.subi v436 v438
  let v440 : BitVec 1 := Scalar.cmpi .ne v434 v439
  let v441 : BitVec 32 := Scalar.remsi v428 c4_i32_270
  let c0_i32_275 : BitVec 32 := 0#32
  let v442 : BitVec 1 := Scalar.cmpi .ne v441 c0_i32_275
  let v443 : BitVec 1 := Scalar.andi v440 v442
  let v429 : BitVec 32 := Scalar.divsi v428 c4_i32_270
  let c1_i32_276 : BitVec 32 := 1#32
  let v444 : BitVec 32 := Scalar.subi v429 c1_i32_276
  let v445 : BitVec 32 := Scalar.select v443 v444 v429
  let c2_i32_278 : BitVec 32 := 2#32
  let v447 : BitVec 32 := Scalar.remsi v445 c2_i32_278
  let c0_i32_279 : BitVec 32 := 0#32
  let v448 : BitVec 1 := Scalar.cmpi .eq v447 c0_i32_279
  let c4_i32_277 : BitVec 32 := 4#32
  let v446 : BitVec 32 := Scalar.remsi v428 c4_i32_277
  let c3_i32_280 : BitVec 32 := 3#32
  let v449 : BitVec 32 := Scalar.subi c3_i32_280 v446
  let v450 : BitVec 32 := Scalar.select v448 v446 v449
  let v451 : BitVec 32 := Scalar.muli c4_i32_281 v450
  let v452 : BitVec 32 := Scalar.addi v451 v445
  let c0_i32_286 : BitVec 32 := 0#32
  ![v452.toNat, 0]
def k0_dev12 (d0 : Dev nD) : Nat :=
  let c0_i32_285 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_284 : BitVec 32 := 1#32
  let v453 : BitVec 32 := Scalar.muli v53 c1_i32_284
  let v454 : BitVec 32 := Scalar.addi c0_i32_285 v453
  v454.toNat
def k0_dev13 (d0 : Dev nD) : Nat :=
  let c0_i32_335 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_334 : BitVec 32 := 1#32
  let v525 : BitVec 32 := Scalar.muli v80 c1_i32_334
  let v526 : BitVec 32 := Scalar.addi c0_i32_335 v525
  v526.toNat
def k0_dev14 (d0 : Dev nD) : Nat :=
  let c0_i32_385 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_384 : BitVec 32 := 1#32
  let v597 : BitVec 32 := Scalar.muli v53 c1_i32_384
  let v598 : BitVec 32 := Scalar.addi c0_i32_385 v597
  v598.toNat
def k0_dev15 (d0 : Dev nD) : Nat :=
  let c0_i32_435 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_434 : BitVec 32 := 1#32
  let v669 : BitVec 32 := Scalar.muli v80 c1_i32_434
  let v670 : BitVec 32 := Scalar.addi c0_i32_435 v669
  v670.toNat
def k0_dev16 (d0 : Dev nD) : Nat :=
  let c0_i32_485 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_484 : BitVec 32 := 1#32
  let v741 : BitVec 32 := Scalar.muli v53 c1_i32_484
  let v742 : BitVec 32 := Scalar.addi c0_i32_485 v741
  v742.toNat
def k0_dev17 (d0 : Dev nD) : Nat :=
  let c0_i32_535 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_534 : BitVec 32 := 1#32
  let v813 : BitVec 32 := Scalar.muli v80 c1_i32_534
  let v814 : BitVec 32 := Scalar.addi c0_i32_535 v813
  v814.toNat
def k0_dev18 (d0 : Dev nD) : Nat :=
  let c0_i32_585 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_584 : BitVec 32 := 1#32
  let v885 : BitVec 32 := Scalar.muli v53 c1_i32_584
  let v886 : BitVec 32 := Scalar.addi c0_i32_585 v885
  v886.toNat
def k0_dev19 (d0 : Dev nD) : Nat :=
  let c0_i32_635 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_634 : BitVec 32 := 1#32
  let v957 : BitVec 32 := Scalar.muli v80 c1_i32_634
  let v958 : BitVec 32 := Scalar.addi c0_i32_635 v957
  v958.toNat
def k0_dev20 (d0 : Dev nD) : Nat :=
  let c0_i32_685 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_684 : BitVec 32 := 1#32
  let v1029 : BitVec 32 := Scalar.muli v53 c1_i32_684
  let v1030 : BitVec 32 := Scalar.addi c0_i32_685 v1029
  v1030.toNat
def k0_dev21 (d0 : Dev nD) : Nat :=
  let c0_i32_727 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_726 : BitVec 32 := 1#32
  let v1097 : BitVec 32 := Scalar.muli v80 c1_i32_726
  let v1098 : BitVec 32 := Scalar.addi c0_i32_727 v1097
  v1098.toNat
def k0_dev22 (d0 : Dev nD) : Nat :=
  let c0_i32_769 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_768 : BitVec 32 := 1#32
  let v1165 : BitVec 32 := Scalar.muli v53 c1_i32_768
  let v1166 : BitVec 32 := Scalar.addi c0_i32_769 v1165
  v1166.toNat
def k0_dev23 (d0 : Dev nD) : Nat :=
  let c0_i32_819 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_818 : BitVec 32 := 1#32
  let v1237 : BitVec 32 := Scalar.muli v80 c1_i32_818
  let v1238 : BitVec 32 := Scalar.addi c0_i32_819 v1237
  v1238.toNat
def k0_dev24 (d0 : Dev nD) : Nat :=
  let c0_i32_869 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_868 : BitVec 32 := 1#32
  let v1309 : BitVec 32 := Scalar.muli v53 c1_i32_868
  let v1310 : BitVec 32 := Scalar.addi c0_i32_869 v1309
  v1310.toNat
def k0_dev25 (d0 : Dev nD) : Nat :=
  let c0_i32_919 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_918 : BitVec 32 := 1#32
  let v1381 : BitVec 32 := Scalar.muli v80 c1_i32_918
  let v1382 : BitVec 32 := Scalar.addi c0_i32_919 v1381
  v1382.toNat
def k0_dev26 (d0 : Dev nD) : Nat :=
  let c0_i32_969 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_968 : BitVec 32 := 1#32
  let v1453 : BitVec 32 := Scalar.muli v53 c1_i32_968
  let v1454 : BitVec 32 := Scalar.addi c0_i32_969 v1453
  v1454.toNat
def k0_dev27 (d0 : Dev nD) : Nat :=
  let c0_i32_1019 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1018 : BitVec 32 := 1#32
  let v1525 : BitVec 32 := Scalar.muli v80 c1_i32_1018
  let v1526 : BitVec 32 := Scalar.addi c0_i32_1019 v1525
  v1526.toNat
def k0_dev28 (d0 : Dev nD) : Nat :=
  let c0_i32_1069 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1068 : BitVec 32 := 1#32
  let v1597 : BitVec 32 := Scalar.muli v53 c1_i32_1068
  let v1598 : BitVec 32 := Scalar.addi c0_i32_1069 v1597
  v1598.toNat
def k0_dev29 (d0 : Dev nD) : Nat :=
  let c0_i32_1119 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1118 : BitVec 32 := 1#32
  let v1669 : BitVec 32 := Scalar.muli v80 c1_i32_1118
  let v1670 : BitVec 32 := Scalar.addi c0_i32_1119 v1669
  v1670.toNat
def k0_dev30 (d0 : Dev nD) : Nat :=
  let c0_i32_1169 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1168 : BitVec 32 := 1#32
  let v1741 : BitVec 32 := Scalar.muli v53 c1_i32_1168
  let v1742 : BitVec 32 := Scalar.addi c0_i32_1169 v1741
  v1742.toNat
def k0_dev31 (d0 : Dev nD) : Nat :=
  let c0_i32_1211 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1210 : BitVec 32 := 1#32
  let v1809 : BitVec 32 := Scalar.muli v80 c1_i32_1210
  let v1810 : BitVec 32 := Scalar.addi c0_i32_1211 v1809
  v1810.toNat
def k0_dev32 (d0 : Dev nD) : Nat :=
  let c0_i32_1253 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1252 : BitVec 32 := 1#32
  let v1877 : BitVec 32 := Scalar.muli v53 c1_i32_1252
  let v1878 : BitVec 32 := Scalar.addi c0_i32_1253 v1877
  v1878.toNat
def k0_dev33 (d0 : Dev nD) : Nat :=
  let c0_i32_1303 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1302 : BitVec 32 := 1#32
  let v1949 : BitVec 32 := Scalar.muli v80 c1_i32_1302
  let v1950 : BitVec 32 := Scalar.addi c0_i32_1303 v1949
  v1950.toNat
def k0_dev34 (d0 : Dev nD) : Nat :=
  let c0_i32_1353 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1352 : BitVec 32 := 1#32
  let v2021 : BitVec 32 := Scalar.muli v53 c1_i32_1352
  let v2022 : BitVec 32 := Scalar.addi c0_i32_1353 v2021
  v2022.toNat
def k0_dev35 (d0 : Dev nD) : Nat :=
  let c0_i32_1403 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1402 : BitVec 32 := 1#32
  let v2093 : BitVec 32 := Scalar.muli v80 c1_i32_1402
  let v2094 : BitVec 32 := Scalar.addi c0_i32_1403 v2093
  v2094.toNat
def k0_dev36 (d0 : Dev nD) : Nat :=
  let c0_i32_1453 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1452 : BitVec 32 := 1#32
  let v2165 : BitVec 32 := Scalar.muli v53 c1_i32_1452
  let v2166 : BitVec 32 := Scalar.addi c0_i32_1453 v2165
  v2166.toNat
def k0_dev37 (d0 : Dev nD) : Nat :=
  let c0_i32_1503 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1502 : BitVec 32 := 1#32
  let v2237 : BitVec 32 := Scalar.muli v80 c1_i32_1502
  let v2238 : BitVec 32 := Scalar.addi c0_i32_1503 v2237
  v2238.toNat
def k0_dev38 (d0 : Dev nD) : Nat :=
  let c0_i32_1553 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1552 : BitVec 32 := 1#32
  let v2309 : BitVec 32 := Scalar.muli v53 c1_i32_1552
  let v2310 : BitVec 32 := Scalar.addi c0_i32_1553 v2309
  v2310.toNat
def k0_dev39 (d0 : Dev nD) : Nat :=
  let c0_i32_1603 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1602 : BitVec 32 := 1#32
  let v2381 : BitVec 32 := Scalar.muli v80 c1_i32_1602
  let v2382 : BitVec 32 := Scalar.addi c0_i32_1603 v2381
  v2382.toNat
def k0_dev40 (d0 : Dev nD) : Nat :=
  let c0_i32_1653 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1652 : BitVec 32 := 1#32
  let v2453 : BitVec 32 := Scalar.muli v53 c1_i32_1652
  let v2454 : BitVec 32 := Scalar.addi c0_i32_1653 v2453
  v2454.toNat
def k0_dev41 (d0 : Dev nD) : Nat :=
  let c0_i32_1695 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1694 : BitVec 32 := 1#32
  let v2521 : BitVec 32 := Scalar.muli v80 c1_i32_1694
  let v2522 : BitVec 32 := Scalar.addi c0_i32_1695 v2521
  v2522.toNat
def k0_dev42 (d0 : Dev nD) : Nat :=
  let c0_i32_1737 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1736 : BitVec 32 := 1#32
  let v2589 : BitVec 32 := Scalar.muli v53 c1_i32_1736
  let v2590 : BitVec 32 := Scalar.addi c0_i32_1737 v2589
  v2590.toNat
def k0_dev43 (d0 : Dev nD) : Nat :=
  let c0_i32_1787 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1786 : BitVec 32 := 1#32
  let v2661 : BitVec 32 := Scalar.muli v80 c1_i32_1786
  let v2662 : BitVec 32 := Scalar.addi c0_i32_1787 v2661
  v2662.toNat
def k0_dev44 (d0 : Dev nD) : Nat :=
  let c0_i32_1837 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1836 : BitVec 32 := 1#32
  let v2733 : BitVec 32 := Scalar.muli v53 c1_i32_1836
  let v2734 : BitVec 32 := Scalar.addi c0_i32_1837 v2733
  v2734.toNat
def k0_dev45 (d0 : Dev nD) : Nat :=
  let c0_i32_1887 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1886 : BitVec 32 := 1#32
  let v2805 : BitVec 32 := Scalar.muli v80 c1_i32_1886
  let v2806 : BitVec 32 := Scalar.addi c0_i32_1887 v2805
  v2806.toNat
def k0_dev46 (d0 : Dev nD) : Nat :=
  let c0_i32_1937 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_1936 : BitVec 32 := 1#32
  let v2877 : BitVec 32 := Scalar.muli v53 c1_i32_1936
  let v2878 : BitVec 32 := Scalar.addi c0_i32_1937 v2877
  v2878.toNat
def k0_dev47 (d0 : Dev nD) : Nat :=
  let c0_i32_1987 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_1986 : BitVec 32 := 1#32
  let v2949 : BitVec 32 := Scalar.muli v80 c1_i32_1986
  let v2950 : BitVec 32 := Scalar.addi c0_i32_1987 v2949
  v2950.toNat
def k0_dev48 (d0 : Dev nD) : Nat :=
  let c0_i32_2037 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2036 : BitVec 32 := 1#32
  let v3021 : BitVec 32 := Scalar.muli v53 c1_i32_2036
  let v3022 : BitVec 32 := Scalar.addi c0_i32_2037 v3021
  v3022.toNat
def k0_dev49 (d0 : Dev nD) : Nat :=
  let c0_i32_2087 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2086 : BitVec 32 := 1#32
  let v3093 : BitVec 32 := Scalar.muli v80 c1_i32_2086
  let v3094 : BitVec 32 := Scalar.addi c0_i32_2087 v3093
  v3094.toNat
def k0_dev50 (d0 : Dev nD) : Nat :=
  let c0_i32_2137 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2136 : BitVec 32 := 1#32
  let v3165 : BitVec 32 := Scalar.muli v53 c1_i32_2136
  let v3166 : BitVec 32 := Scalar.addi c0_i32_2137 v3165
  v3166.toNat
def k0_dev51 (d0 : Dev nD) : Nat :=
  let c0_i32_2179 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2178 : BitVec 32 := 1#32
  let v3233 : BitVec 32 := Scalar.muli v80 c1_i32_2178
  let v3234 : BitVec 32 := Scalar.addi c0_i32_2179 v3233
  v3234.toNat
def k0_dev52 (d0 : Dev nD) : Nat :=
  let c0_i32_2221 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2220 : BitVec 32 := 1#32
  let v3301 : BitVec 32 := Scalar.muli v53 c1_i32_2220
  let v3302 : BitVec 32 := Scalar.addi c0_i32_2221 v3301
  v3302.toNat
def k0_dev53 (d0 : Dev nD) : Nat :=
  let c0_i32_2270 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2269 : BitVec 32 := 1#32
  let v3373 : BitVec 32 := Scalar.muli v80 c1_i32_2269
  let v3374 : BitVec 32 := Scalar.addi c0_i32_2270 v3373
  v3374.toNat
def k0_dev54 (d0 : Dev nD) : Nat :=
  let c0_i32_2320 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2319 : BitVec 32 := 1#32
  let v3445 : BitVec 32 := Scalar.muli v53 c1_i32_2319
  let v3446 : BitVec 32 := Scalar.addi c0_i32_2320 v3445
  v3446.toNat
def k0_dev55 (d0 : Dev nD) : Nat :=
  let c0_i32_2370 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2369 : BitVec 32 := 1#32
  let v3517 : BitVec 32 := Scalar.muli v80 c1_i32_2369
  let v3518 : BitVec 32 := Scalar.addi c0_i32_2370 v3517
  v3518.toNat
def k0_dev56 (d0 : Dev nD) : Nat :=
  let c0_i32_2420 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2419 : BitVec 32 := 1#32
  let v3589 : BitVec 32 := Scalar.muli v53 c1_i32_2419
  let v3590 : BitVec 32 := Scalar.addi c0_i32_2420 v3589
  v3590.toNat
def k0_dev57 (d0 : Dev nD) : Nat :=
  let c0_i32_2470 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2469 : BitVec 32 := 1#32
  let v3661 : BitVec 32 := Scalar.muli v80 c1_i32_2469
  let v3662 : BitVec 32 := Scalar.addi c0_i32_2470 v3661
  v3662.toNat
def k0_dev58 (d0 : Dev nD) : Nat :=
  let c0_i32_2520 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2519 : BitVec 32 := 1#32
  let v3733 : BitVec 32 := Scalar.muli v53 c1_i32_2519
  let v3734 : BitVec 32 := Scalar.addi c0_i32_2520 v3733
  v3734.toNat
def k0_dev59 (d0 : Dev nD) : Nat :=
  let c0_i32_2570 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2569 : BitVec 32 := 1#32
  let v3805 : BitVec 32 := Scalar.muli v80 c1_i32_2569
  let v3806 : BitVec 32 := Scalar.addi c0_i32_2570 v3805
  v3806.toNat
def k0_dev60 (d0 : Dev nD) : Nat :=
  let c0_i32_2620 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2619 : BitVec 32 := 1#32
  let v3877 : BitVec 32 := Scalar.muli v53 c1_i32_2619
  let v3878 : BitVec 32 := Scalar.addi c0_i32_2620 v3877
  v3878.toNat
def k0_dev61 (d0 : Dev nD) : Nat :=
  let c0_i32_2662 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2661 : BitVec 32 := 1#32
  let v3945 : BitVec 32 := Scalar.muli v80 c1_i32_2661
  let v3946 : BitVec 32 := Scalar.addi c0_i32_2662 v3945
  v3946.toNat
def k0_dev62 (d0 : Dev nD) : Nat :=
  let c0_i32_2704 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2703 : BitVec 32 := 1#32
  let v4013 : BitVec 32 := Scalar.muli v53 c1_i32_2703
  let v4014 : BitVec 32 := Scalar.addi c0_i32_2704 v4013
  v4014.toNat
def k0_dev63 (d0 : Dev nD) : Nat :=
  let c0_i32_2753 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2752 : BitVec 32 := 1#32
  let v4085 : BitVec 32 := Scalar.muli v80 c1_i32_2752
  let v4086 : BitVec 32 := Scalar.addi c0_i32_2753 v4085
  v4086.toNat
def k0_dev64 (d0 : Dev nD) : Nat :=
  let c0_i32_2803 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2802 : BitVec 32 := 1#32
  let v4157 : BitVec 32 := Scalar.muli v53 c1_i32_2802
  let v4158 : BitVec 32 := Scalar.addi c0_i32_2803 v4157
  v4158.toNat
def k0_dev65 (d0 : Dev nD) : Nat :=
  let c0_i32_2853 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2852 : BitVec 32 := 1#32
  let v4229 : BitVec 32 := Scalar.muli v80 c1_i32_2852
  let v4230 : BitVec 32 := Scalar.addi c0_i32_2853 v4229
  v4230.toNat
def k0_dev66 (d0 : Dev nD) : Nat :=
  let c0_i32_2903 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_2902 : BitVec 32 := 1#32
  let v4301 : BitVec 32 := Scalar.muli v53 c1_i32_2902
  let v4302 : BitVec 32 := Scalar.addi c0_i32_2903 v4301
  v4302.toNat
def k0_dev67 (d0 : Dev nD) : Nat :=
  let c0_i32_2953 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_2952 : BitVec 32 := 1#32
  let v4373 : BitVec 32 := Scalar.muli v80 c1_i32_2952
  let v4374 : BitVec 32 := Scalar.addi c0_i32_2953 v4373
  v4374.toNat
def k0_dev68 (d0 : Dev nD) : Nat :=
  let c0_i32_3003 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_3002 : BitVec 32 := 1#32
  let v4445 : BitVec 32 := Scalar.muli v53 c1_i32_3002
  let v4446 : BitVec 32 := Scalar.addi c0_i32_3003 v4445
  v4446.toNat
def k0_dev69 (d0 : Dev nD) : Nat :=
  let c0_i32_3053 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3052 : BitVec 32 := 1#32
  let v4517 : BitVec 32 := Scalar.muli v80 c1_i32_3052
  let v4518 : BitVec 32 := Scalar.addi c0_i32_3053 v4517
  v4518.toNat
def k0_dev70 (d0 : Dev nD) : Nat :=
  let c0_i32_3103 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_3102 : BitVec 32 := 1#32
  let v4589 : BitVec 32 := Scalar.muli v53 c1_i32_3102
  let v4590 : BitVec 32 := Scalar.addi c0_i32_3103 v4589
  v4590.toNat
def k0_dev71 (d0 : Dev nD) : Nat :=
  let c0_i32_3145 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3144 : BitVec 32 := 1#32
  let v4657 : BitVec 32 := Scalar.muli v80 c1_i32_3144
  let v4658 : BitVec 32 := Scalar.addi c0_i32_3145 v4657
  v4658.toNat
def k0_dev72 (d0 : Dev nD) : Nat :=
  let c0_i32_3187 : BitVec 32 := 0#32
  let c4_i32_21 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_8 : BitVec 32 := 1#32
  let v27 : BitVec 32 := Scalar.subi v26 c1_i32_8
  let c32_i32 : BitVec 32 := 32#32
  let v28 : BitVec 32 := Scalar.addi v27 c32_i32
  let c16_i32_9 : BitVec 32 := 16#32
  let v29 : BitVec 32 := Scalar.remsi v28 c16_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c4_i32_10 : BitVec 32 := 4#32
  let c0_i32_13 : BitVec 32 := 0#32
  let v36 : BitVec 1 := Scalar.cmpi .sgt c4_i32_10 c0_i32_13
  let v37 : BitVec 32 := Scalar.extui v36
  let c0_i32_14 : BitVec 32 := 0#32
  let v38 : BitVec 1 := Scalar.cmpi .slt c4_i32_10 c0_i32_14
  let v39 : BitVec 32 := Scalar.extui v38
  let v40 : BitVec 32 := Scalar.subi v37 v39
  let v41 : BitVec 1 := Scalar.cmpi .ne v35 v40
  let v42 : BitVec 32 := Scalar.remsi v29 c4_i32_10
  let c0_i32_15 : BitVec 32 := 0#32
  let v43 : BitVec 1 := Scalar.cmpi .ne v42 c0_i32_15
  let v44 : BitVec 1 := Scalar.andi v41 v43
  let v30 : BitVec 32 := Scalar.divsi v29 c4_i32_10
  let c1_i32_16 : BitVec 32 := 1#32
  let v45 : BitVec 32 := Scalar.subi v30 c1_i32_16
  let v46 : BitVec 32 := Scalar.select v44 v45 v30
  let c2_i32_18 : BitVec 32 := 2#32
  let v48 : BitVec 32 := Scalar.remsi v46 c2_i32_18
  let c0_i32_19 : BitVec 32 := 0#32
  let v49 : BitVec 1 := Scalar.cmpi .eq v48 c0_i32_19
  let c4_i32_17 : BitVec 32 := 4#32
  let v47 : BitVec 32 := Scalar.remsi v29 c4_i32_17
  let c3_i32_20 : BitVec 32 := 3#32
  let v50 : BitVec 32 := Scalar.subi c3_i32_20 v47
  let v51 : BitVec 32 := Scalar.select v49 v47 v50
  let v52 : BitVec 32 := Scalar.muli c4_i32_21 v51
  let v53 : BitVec 32 := Scalar.addi v52 v46
  let c1_i32_3186 : BitVec 32 := 1#32
  let v4725 : BitVec 32 := Scalar.muli v53 c1_i32_3186
  let v4726 : BitVec 32 := Scalar.addi c0_i32_3187 v4725
  v4726.toNat
def k0_dev73 (d0 : Dev nD) : Nat :=
  let c0_i32_3236 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3235 : BitVec 32 := 1#32
  let v4797 : BitVec 32 := Scalar.muli v80 c1_i32_3235
  let v4798 : BitVec 32 := Scalar.addi c0_i32_3236 v4797
  v4798.toNat
def k0_dev74 (d0 : Dev nD) : Nat :=
  let c0_i32_3286 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3285 : BitVec 32 := 1#32
  let v4869 : BitVec 32 := Scalar.muli v80 c1_i32_3285
  let v4870 : BitVec 32 := Scalar.addi c0_i32_3286 v4869
  v4870.toNat
def k0_dev75 (d0 : Dev nD) : Nat :=
  let c0_i32_3336 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3335 : BitVec 32 := 1#32
  let v4941 : BitVec 32 := Scalar.muli v80 c1_i32_3335
  let v4942 : BitVec 32 := Scalar.addi c0_i32_3336 v4941
  v4942.toNat
def k0_dev76 (d0 : Dev nD) : Nat :=
  let c0_i32_3386 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3385 : BitVec 32 := 1#32
  let v5013 : BitVec 32 := Scalar.muli v80 c1_i32_3385
  let v5014 : BitVec 32 := Scalar.addi c0_i32_3386 v5013
  v5014.toNat
def k0_dev77 (d0 : Dev nD) : Nat :=
  let c0_i32_3428 : BitVec 32 := 0#32
  let c4_i32_36 : BitVec 32 := 4#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.muli c4_i32_6 v3
  let c2_i32 : BitVec 32 := 2#32
  let v22 : BitVec 32 := Scalar.remsi v3 c2_i32
  let c0_i32_7 : BitVec 32 := 0#32
  let v23 : BitVec 1 := Scalar.cmpi .eq v22 c0_i32_7
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v24 : BitVec 32 := Scalar.subi c3_i32 v20
  let v25 : BitVec 32 := Scalar.select v23 v20 v24
  let v26 : BitVec 32 := Scalar.addi v21 v25
  let c1_i32_22 : BitVec 32 := 1#32
  let v54 : BitVec 32 := Scalar.addi v26 c1_i32_22
  let c32_i32_23 : BitVec 32 := 32#32
  let v55 : BitVec 32 := Scalar.addi v54 c32_i32_23
  let c16_i32_24 : BitVec 32 := 16#32
  let v56 : BitVec 32 := Scalar.remsi v55 c16_i32_24
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c4_i32_25 : BitVec 32 := 4#32
  let c0_i32_28 : BitVec 32 := 0#32
  let v63 : BitVec 1 := Scalar.cmpi .sgt c4_i32_25 c0_i32_28
  let v64 : BitVec 32 := Scalar.extui v63
  let c0_i32_29 : BitVec 32 := 0#32
  let v65 : BitVec 1 := Scalar.cmpi .slt c4_i32_25 c0_i32_29
  let v66 : BitVec 32 := Scalar.extui v65
  let v67 : BitVec 32 := Scalar.subi v64 v66
  let v68 : BitVec 1 := Scalar.cmpi .ne v62 v67
  let v69 : BitVec 32 := Scalar.remsi v56 c4_i32_25
  let c0_i32_30 : BitVec 32 := 0#32
  let v70 : BitVec 1 := Scalar.cmpi .ne v69 c0_i32_30
  let v71 : BitVec 1 := Scalar.andi v68 v70
  let v57 : BitVec 32 := Scalar.divsi v56 c4_i32_25
  let c1_i32_31 : BitVec 32 := 1#32
  let v72 : BitVec 32 := Scalar.subi v57 c1_i32_31
  let v73 : BitVec 32 := Scalar.select v71 v72 v57
  let c2_i32_33 : BitVec 32 := 2#32
  let v75 : BitVec 32 := Scalar.remsi v73 c2_i32_33
  let c0_i32_34 : BitVec 32 := 0#32
  let v76 : BitVec 1 := Scalar.cmpi .eq v75 c0_i32_34
  let c4_i32_32 : BitVec 32 := 4#32
  let v74 : BitVec 32 := Scalar.remsi v56 c4_i32_32
  let c3_i32_35 : BitVec 32 := 3#32
  let v77 : BitVec 32 := Scalar.subi c3_i32_35 v74
  let v78 : BitVec 32 := Scalar.select v76 v74 v77
  let v79 : BitVec 32 := Scalar.muli c4_i32_36 v78
  let v80 : BitVec 32 := Scalar.addi v79 v73
  let c1_i32_3427 : BitVec 32 := 1#32
  let v5081 : BitVec 32 := Scalar.muli v80 c1_i32_3427
  let v5082 : BitVec 32 := Scalar.addi c0_i32_3428 v5081
  v5082.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S256x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8192x512 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S32x128x4096 : Shape := ⟨3, ![32, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x64x128x128 : Shape := ⟨4, ![32, 64, 128, 128]⟩
abbrev S1x1x128x128 : Shape := ⟨4, ![1, 1, 128, 128]⟩
abbrev S32x64x128 : Shape := ⟨3, ![32, 64, 128]⟩
abbrev S32x64x128x1 : Shape := ⟨4, ![32, 64, 128, 1]⟩
abbrev S1x1x128x1 : Shape := ⟨4, ![1, 1, 128, 1]⟩
abbrev S32x64x64x128 : Shape := ⟨4, ![32, 64, 64, 128]⟩
abbrev S4096x4096 : Shape := ⟨2, ![4096, 4096]⟩

abbrev nBuf : Space → Nat
  | .hbm => 139
  | .vmem => 0
  | .smem => 0
  | _ => 0

abbrev hbmTy0_0 (i : Nat) : BufTy := match i % 128 with
  | 0 => ⟨S32x128x512, .bf16⟩
  | 1 => ⟨S512x4096, .bf16⟩
  | 2 => ⟨S32x128x64x64, .bf16⟩
  | 3 => ⟨S32x128x64x64, .bf16⟩
  | 4 => ⟨S4096x512, .bf16⟩
  | 5 => ⟨S4096x512, .bf16⟩
  | 6 => ⟨S4096x512, .bf16⟩
  | 7 => ⟨S_, .bf16⟩
  | 8 => ⟨S4096, .bf16⟩
  | 9 => ⟨S4096x1, .bf16⟩
  | 10 => ⟨S_, .bf16⟩
  | 11 => ⟨S4096x1, .bf16⟩
  | 12 => ⟨S4096x1, .bf16⟩
  | 13 => ⟨S_, .bf16⟩
  | 14 => ⟨S4096x1, .bf16⟩
  | 15 => ⟨S4096x1, .bf16⟩
  | 16 => ⟨S4096x512, .bf16⟩
  | 17 => ⟨S4096x512, .bf16⟩
  | 18 => ⟨S4096x512, .bf16⟩
  | 19 => ⟨S4096x512, .f32⟩
  | 20 => ⟨S4096x512, .i32⟩
  | 21 => ⟨S4096x512, .i8⟩
  | 22 => ⟨S4096x512, .i32⟩
  | 23 => ⟨S4096x512, .f32⟩
  | 24 => ⟨S4096x1, .f32⟩
  | 25 => ⟨S4096x512, .f32⟩
  | 26 => ⟨S4096x512, .f32⟩
  | 27 => ⟨S512x4096, .f32⟩
  | 28 => ⟨S4096x512, .bf16⟩
  | 29 => ⟨S_, .bf16⟩
  | 30 => ⟨S4096, .bf16⟩
  | 31 => ⟨S4096x1, .bf16⟩
  | 32 => ⟨S_, .bf16⟩
  | 33 => ⟨S4096x1, .bf16⟩
  | 34 => ⟨S4096x1, .bf16⟩
  | 35 => ⟨S_, .bf16⟩
  | 36 => ⟨S4096x1, .bf16⟩
  | 37 => ⟨S4096x1, .bf16⟩
  | 38 => ⟨S4096x512, .bf16⟩
  | 39 => ⟨S4096x512, .bf16⟩
  | 40 => ⟨S4096x512, .bf16⟩
  | 41 => ⟨S4096x512, .f32⟩
  | 42 => ⟨S4096x512, .i32⟩
  | 43 => ⟨S4096x512, .i8⟩
  | 44 => ⟨S4096x512, .i32⟩
  | 45 => ⟨S4096x512, .f32⟩
  | 46 => ⟨S4096x1, .f32⟩
  | 47 => ⟨S4096x512, .f32⟩
  | 48 => ⟨S4096x512, .f32⟩
  | 49 => ⟨S32x128x512, .f32⟩
  | 50 => ⟨S32x128x4096, .f32⟩
  | 51 => ⟨S32x128x4096, .bf16⟩
  | 52 => ⟨S32x128x64x64, .bf16⟩
  | 53 => ⟨S128, .i32⟩
  | 54 => ⟨S_, .i32⟩
  | 55 => ⟨S_, .i32⟩
  | 56 => ⟨S128, .i32⟩
  | 57 => ⟨S128, .i32⟩
  | 58 => ⟨S128, .i32⟩
  | 59 => ⟨S_, .i32⟩
  | 60 => ⟨S128, .i32⟩
  | 61 => ⟨S128, .i1⟩
  | 62 => ⟨S128, .i32⟩
  | 63 => ⟨S128, .i32⟩
  | 64 => ⟨S_, .i32⟩
  | 65 => ⟨S128, .i32⟩
  | 66 => ⟨S128, .i1⟩
  | 67 => ⟨S128, .i1⟩
  | 68 => ⟨S_, .i32⟩
  | 69 => ⟨S128, .i32⟩
  | 70 => ⟨S128, .i32⟩
  | 71 => ⟨S128, .i32⟩
  | 72 => ⟨S128x1, .i32⟩
  | 73 => ⟨S128, .i32⟩
  | 74 => ⟨S_, .i32⟩
  | 75 => ⟨S_, .i32⟩
  | 76 => ⟨S128, .i32⟩
  | 77 => ⟨S128, .i32⟩
  | 78 => ⟨S128, .i32⟩
  | 79 => ⟨S_, .i32⟩
  | 80 => ⟨S128, .i32⟩
  | 81 => ⟨S128, .i1⟩
  | 82 => ⟨S128, .i32⟩
  | 83 => ⟨S128, .i32⟩
  | 84 => ⟨S_, .i32⟩
  | 85 => ⟨S128, .i32⟩
  | 86 => ⟨S128, .i1⟩
  | 87 => ⟨S128, .i1⟩
  | 88 => ⟨S_, .i32⟩
  | 89 => ⟨S128, .i32⟩
  | 90 => ⟨S128, .i32⟩
  | 91 => ⟨S128, .i32⟩
  | 92 => ⟨S1x128, .i32⟩
  | 93 => ⟨S128x128, .i32⟩
  | 94 => ⟨S128x128, .i32⟩
  | 95 => ⟨S128x128, .i1⟩
  | 96 => ⟨S32x64x128x128, .f32⟩
  | 97 => ⟨S32x64x128x128, .bf16⟩
  | 98 => ⟨S32x64x128x128, .f32⟩
  | 99 => ⟨S_, .f32⟩
  | 100 => ⟨S32x64x128x128, .f32⟩
  | 101 => ⟨S32x64x128x128, .f32⟩
  | 102 => ⟨S1x1x128x128, .i1⟩
  | 103 => ⟨S_, .f32⟩
  | 104 => ⟨S_, .f32⟩
  | 105 => ⟨S32x64x128x128, .i1⟩
  | 106 => ⟨S32x64x128x128, .f32⟩
  | 107 => ⟨S32x64x128x128, .f32⟩
  | 108 => ⟨S_, .f32⟩
  | 109 => ⟨S32x64x128, .f32⟩
  | 110 => ⟨S32x64x128x1, .f32⟩
  | 111 => ⟨S32x64x128x128, .f32⟩
  | 112 => ⟨S32x64x128x128, .f32⟩
  | 113 => ⟨S32x64x128x128, .f32⟩
  | 114 => ⟨S_, .i1⟩
  | 115 => ⟨S128, .i1⟩
  | 116 => ⟨S1x1x128x1, .i1⟩
  | 117 => ⟨S_, .f32⟩
  | 118 => ⟨S32x64x128, .f32⟩
  | 119 => ⟨S32x64x128x1, .f32⟩
  | 120 => ⟨S_, .f32⟩
  | 121 => ⟨S_, .f32⟩
  | 122 => ⟨S32x64x128x1, .i1⟩
  | 123 => ⟨S32x64x128x1, .f32⟩
  | 124 => ⟨S32x64x128x1, .f32⟩
  | 125 => ⟨S32x64x128x128, .f32⟩
  | 126 => ⟨S32x64x128x128, .f32⟩
  | 127 => ⟨S1x1x128x1, .i1⟩
  | _ => ⟨S32x128x512, .bf16⟩

abbrev hbmTy0_1 (i : Nat) : BufTy := match i % 128 with
  | 0 => ⟨S_, .f32⟩
  | 1 => ⟨S_, .f32⟩
  | 2 => ⟨S32x64x128x128, .i1⟩
  | 3 => ⟨S32x64x128x128, .f32⟩
  | 4 => ⟨S32x64x128x128, .f32⟩
  | 5 => ⟨S32x128x64x64, .f32⟩
  | 6 => ⟨S32x64x64x128, .f32⟩
  | 7 => ⟨S32x128x64x64, .f32⟩
  | 8 => ⟨S4096x4096, .f32⟩
  | 9 => ⟨S4096x512, .f32⟩
  | 10 => ⟨S32x128x512, .f32⟩
  | _ => ⟨S32x128x512, .bf16⟩

abbrev hbmTy (i : Nat) : BufTy := match i / 128 with
  | 0 => hbmTy0_0 i
  | 1 => hbmTy0_1 i
  | _ => ⟨S32x128x512, .bf16⟩

abbrev bufTy : (tb : Table) → Fin (tcTables nBuf tb) → BufTy
  | .hbm, ⟨i, _⟩ => hbmTy i
  | _, _ => ⟨S32x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_5 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_6 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_7 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v57 : Ref sig .tc := ⟨.hbm, 107, rfl⟩
abbrev main_cst_8 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_9 : Ref sig .tc := ⟨.hbm, 114, rfl⟩
abbrev main_v63 : Ref sig .tc := ⟨.hbm, 115, rfl⟩
abbrev main_v64 : Ref sig .tc := ⟨.hbm, 116, rfl⟩
abbrev main_cst_10 : Ref sig .tc := ⟨.hbm, 117, rfl⟩
abbrev main_v65 : Ref sig .tc := ⟨.hbm, 118, rfl⟩
abbrev main_v66 : Ref sig .tc := ⟨.hbm, 119, rfl⟩
abbrev main_cst_11 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_12 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩

abbrev nD : Nat := 1
abbrev τ : Topo := Topo.v7x

variable {F : FTy → Type} [FloatOps F]
-- ==== Proof.Wires.lean ====
/-
  The shape of the all-gather kernel: its transfers, their semaphores and views, and the body as a list of steps.

  Sixteen devices stand on a ring. Every device's weights (512 rows of int8, cut into four pieces of 128 rows) and its row of
  scales travel both ways round: eight hops forward (to the right neighbour) and seven hops backward (to the left one). A
  transfer is named by its direction, its hop and what it carries. The printed body is, step for step, a short prologue, the
  list of transfers in program order, the list of waits for the last arrivals, the list of waits for the transfers sent, and
  sixteen multiplications, one per chunk (`body_eq`).
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

@[expose] public section

set_option maxRecDepth 16384

noncomputable section

namespace Cert.AllGather

open Cert.KernelIdeal Cert.KernelIdeal.Gen
open Idealize.ShloMosaic Idealize.ShloMosaic.TcCoe
open Idealize.SL Idealize.SL.Sem

variable {F : FTy → Type} [FloatOps F]

/-! ## Transfers -/

/-- What a transfer carries: one of the four pieces of a chunk of weights, or a row of scales. -/
inductive Lane where
  | w (l : Fin 4)
  | s
  deriving DecidableEq

instance : Fintype Lane :=
  ⟨{.w 0, .w 1, .w 2, .w 3, .s}, fun l => by
    rcases l with l | _
    · revert l; decide
    · decide⟩

/-- A transfer a device sends: forward at hop `h` (to the right), or backward at hop `h` (to the left). -/
inductive Xf where
  | fwd (h : Fin 8) (l : Lane)
  | bwd (h : Fin 7) (l : Lane)
  deriving DecidableEq

/-- The transfers of one hop, in program order. -/
def hop (h : Fin 7) : List Xf :=
  [.fwd h.castSucc (.w 0), .bwd h (.w 0), .fwd h.castSucc (.w 1), .bwd h (.w 1), .fwd h.castSucc (.w 2), .bwd h (.w 2),
   .fwd h.castSucc (.w 3), .bwd h (.w 3), .fwd h.castSucc .s, .bwd h .s]

/-- The last hop: forward only. -/
def lastHop : List Xf := [.fwd 7 (.w 0), .fwd 7 (.w 1), .fwd 7 (.w 2), .fwd 7 (.w 3), .fwd 7 .s]

/-- All transfers in program order. -/
def sends : List Xf := hop 0 ++ hop 1 ++ hop 2 ++ hop 3 ++ hop 4 ++ hop 5 ++ hop 6 ++ lastHop

theorem sends_nodup : sends.Nodup := by decide
theorem mem_sends (x : Xf) : x ∈ sends := by
  rcases x with ⟨h, l⟩ | ⟨h, l⟩
  · revert h l; decide
  · revert h l; decide
instance : Fintype Xf := ⟨⟨sends, sends_nodup⟩, mem_sends⟩

/-- The transfers whose arrival is waited for after the last send: the last forward and the last backward hop. -/
def arrivals : List Xf :=
  [.fwd 7 (.w 0), .bwd 6 (.w 0), .fwd 7 (.w 1), .bwd 6 (.w 1), .fwd 7 (.w 2), .bwd 6 (.w 2), .fwd 7 (.w 3), .bwd 6 (.w 3), .fwd 7 .s, .bwd 6 .s]

/-- The transfer a device must have received before it sends `x` on: none at the first hop. -/
def pred : Xf → Option Xf
  | .fwd ⟨0, _⟩ _ => none
  | .fwd ⟨h + 1, hh⟩ l => some (.fwd ⟨h, by omega⟩ l)
  | .bwd ⟨0, _⟩ _ => none
  | .bwd ⟨h + 1, hh⟩ l => some (.bwd ⟨h, by omega⟩ l)

/-! ## Semaphores -/

/-- The number of a transfer within its semaphore arrays' pool: the semaphore counted when the source has been read. -/
def sendNo : Xf → Nat
  | .fwd h (.w l) => 6 + (4 * h.val + l.val)
  | .fwd h .s => 70 + h.val
  | .bwd h (.w l) => 86 + (4 * h.val + l.val)
  | .bwd h .s => 142 + h.val
/-- The semaphore counted when it has landed. -/
def recvNo : Xf → Nat
  | .fwd h (.w l) => 38 + (4 * h.val + l.val)
  | .fwd h .s => 78 + h.val
  | .bwd h (.w l) => 114 + (4 * h.val + l.val)
  | .bwd h .s => 149 + h.val
theorem sendNo_lt (x : Xf) : sendNo x < sig.nDmaSem := by revert x; decide
theorem recvNo_lt (x : Xf) : recvNo x < sig.nDmaSem := by revert x; decide
def sS (x : Xf) : DmaSem sig := ⟨sendNo x, sendNo_lt x⟩
def sR (x : Xf) : DmaSem sig := ⟨recvNo x, recvNo_lt x⟩

/-! ## The buffers -/

abbrev xM : Memref sig .tc .vmem S256x512 .bf16 := Memref.whole cc0_stg0_0
abbrev wM : Memref sig .tc .vmem S512x512 .i8 := Memref.whole cc0_stg1_0
abbrev cM : Memref sig .tc .vmem S1x512 .f32 := Memref.whole cc0_stg2_0
abbrev qM : Memref sig .tc .vmem S256x4096 .bf16 := Memref.whole cc0_stg3_0
abbrev aM : Memref sig .tc .vmem S8192x512 .i8 := Memref.whole cc0_stg4_0
abbrev bM : Memref sig .tc .vmem S16x512 .f32 := Memref.whole cc0_stg5_0

/-- The piece of the gathered weights that is forward piece `(h, l)` on device `c`, as the kernel computes its offset. -/
def fwV (c : Dev nD) (h : Fin 9) (l : Fin 4) : Memref sig .tc .vmem S128x512 .i8 :=
  aM.slice (Rect.unit (s := S8192x512) (k0_off3 c (BitVec.ofNat 32 h.val) (BitVec.ofNat 32 (128 * l.val))) S128x512.size (k0_off3_inb c h l)) (fun _ => rfl)
def bwV (c : Dev nD) (h : Fin 8) (l : Fin 4) : Memref sig .tc .vmem S128x512 .i8 :=
  aM.slice (Rect.unit (s := S8192x512) (k0_off4 c (BitVec.ofNat 32 h.val) (BitVec.ofNat 32 (128 * l.val))) S128x512.size (k0_off4_inb c h l)) (fun _ => rfl)
/-- The row of scales likewise. -/
def fsV (c : Dev nD) (h : Fin 9) : Memref sig .tc .vmem S1x512 .f32 :=
  bM.slice (Rect.unit (s := S16x512) (k0_off5 c (BitVec.ofNat 32 h.val)) S1x512.size (k0_off5_inb c h)) (fun _ => rfl)
def bsV (c : Dev nD) (h : Fin 8) : Memref sig .tc .vmem S1x512 .f32 :=
  bM.slice (Rect.unit (s := S16x512) (k0_off6 c (BitVec.ofNat 32 h.val)) S1x512.size (k0_off6_inb c h)) (fun _ => rfl)

theorem fwV_words (c : Dev nD) (h : Fin 9) (l : Fin 4) : (fwV c h l).view.WordExact :=
  (Memref.isWhole_whole cc0_stg4_0).wordExact_slice rfl _ (k0_off3_wordsi8 c h l)
theorem bwV_words (c : Dev nD) (h : Fin 8) (l : Fin 4) : (bwV c h l).view.WordExact :=
  (Memref.isWhole_whole cc0_stg4_0).wordExact_slice rfl _ (k0_off4_wordsi8 c h l)

/-! ## The steps -/

/-- The programs of the kernel's core. -/
abbrev KProg (F : FTy → Type) [FloatOps F] (α : Type) := Prog (TpuEff nD τ sig (Elt F) Λ₀ .tc) α

def right (c : Dev nD) : Dev nD := ⟨k0_dev3 c, k0_dev3_lt c⟩
def left (c : Dev nD) : Dev nD := ⟨k0_dev4 c, k0_dev4_lt c⟩

/-- Send `x`: the piece to the same place on the neighbour. -/
def sendP (c : Dev nD) : Xf → KProg F PUnit
  | .fwd h (.w l) => Prog.lift (.enqueueDma (fwV c h.castSucc l) (.remote (Dev.tc (right c)) (fwV c h.castSucc l) (.dma (sS (.fwd h (.w l))))) (.dma (sR (.fwd h (.w l))))
      (fwV_words c _ l) (fwV_words c _ l) ⟨⟨rfl, Or.inl rfl⟩, trivial⟩)
  | .fwd h .s => Prog.lift (.enqueueDma (fsV c h.castSucc) (.remote (Dev.tc (right c)) (fsV c h.castSucc) (.dma (sS (.fwd h .s)))) (.dma (sR (.fwd h .s)))
      (View.wordExact_bits rfl) (View.wordExact_bits rfl) ⟨⟨rfl, Or.inl rfl⟩, trivial⟩)
  | .bwd h (.w l) => Prog.lift (.enqueueDma (bwV c h.castSucc l) (.remote (Dev.tc (left c)) (bwV c h.castSucc l) (.dma (sS (.bwd h (.w l))))) (.dma (sR (.bwd h (.w l))))
      (bwV_words c _ l) (bwV_words c _ l) ⟨⟨rfl, Or.inl rfl⟩, trivial⟩)
  | .bwd h .s => Prog.lift (.enqueueDma (bsV c h.castSucc) (.remote (Dev.tc (left c)) (bsV c h.castSucc) (.dma (sS (.bwd h .s)))) (.dma (sR (.bwd h .s)))
      (View.wordExact_bits rfl) (View.wordExact_bits rfl) ⟨⟨rfl, Or.inl rfl⟩, trivial⟩)

/-- Wait for the arrival of the neighbour's transfer `x`. -/
def recvP (c : Dev nD) : Xf → KProg F PUnit
  | .fwd h (.w l) => Prog.lift (.waitDma2 (sR (.fwd h (.w l))) (fwV c h.succ l) (fwV c h.succ l) (fwV_words c _ l) (fwV_words c _ l))
  | .fwd h .s => Prog.lift (.waitDma2 (sR (.fwd h .s)) (fsV c h.succ) (fsV c h.succ) (View.wordExact_bits rfl) (View.wordExact_bits rfl))
  | .bwd h (.w l) => Prog.lift (.waitDma2 (sR (.bwd h (.w l))) (bwV c h.succ l) (bwV c h.succ l) (bwV_words c _ l) (bwV_words c _ l))
  | .bwd h .s => Prog.lift (.waitDma2 (sR (.bwd h .s)) (bsV c h.succ) (bsV c h.succ) (View.wordExact_bits rfl) (View.wordExact_bits rfl))

/-- Wait until the source of the own transfer `x` has been read. -/
def doneP (c : Dev nD) : Xf → KProg F PUnit
  | .fwd h (.w l) => Prog.lift (.waitDma2 (sS (.fwd h (.w l))) (fwV c h.castSucc l) (fwV c h.castSucc l) (fwV_words c _ l) (fwV_words c _ l))
  | .fwd h .s => Prog.lift (.waitDma2 (sS (.fwd h .s)) (fsV c h.castSucc) (fsV c h.castSucc) (View.wordExact_bits rfl) (View.wordExact_bits rfl))
  | .bwd h (.w l) => Prog.lift (.waitDma2 (sS (.bwd h (.w l))) (bwV c h.castSucc l) (bwV c h.castSucc l) (bwV_words c _ l) (bwV_words c _ l))
  | .bwd h .s => Prog.lift (.waitDma2 (sS (.bwd h .s)) (bsV c h.castSucc) (bsV c h.castSucc) (View.wordExact_bits rfl) (View.wordExact_bits rfl))

/-- Receive what `x` passes on, if it is not the first hop, and send `x`. -/
def passP (c : Dev nD) (x : Xf) : KProg F PUnit :=
  match pred x with
  | none => sendP c x
  | some y => recvP c y >>= fun _ => sendP c x

/-- Steps one after the other, then `k`. -/
def seqP {I : Type} (p : I → KProg F PUnit) (k : KProg F PUnit) : List I → KProg F PUnit
  | [] => k
  | i :: is => p i >>= fun _ => seqP p k is

/-- The block of queries of one chunk: the activations times the transposed weights, every column times its scale, rounded. -/
def qBlk (x : Vec F S256x512 .bf16) (w : Vec F S256x512 .i8) (s : Vec F S1x256 .f32) : FVec F S256x256 .bf16 := k0_pay4 x w s

theorem inbW (k : Fin 16) : ∀ a, (![512 * k.val, 0] : Fin 2 → Nat) a + S256x512.size a ≤ S8192x512.size a := by revert k; decide
theorem inbS (k : Fin 16) : ∀ a, (![k.val, 0] : Fin 2 → Nat) a + S1x256.size a ≤ S16x512.size a := by revert k; decide
theorem inbQ (k : Fin 16) : ∀ a, (![0, 256 * k.val] : Fin 2 → Nat) a + S256x256.size a ≤ S256x4096.size a := by revert k; decide
theorem packedQ (k : Fin 16) : (Rect.unit (s := S256x4096) ![0, 256 * k.val] S256x256.size (inbQ k)).PackedRows (EltTy.packing .bf16) := by
  revert k; decide +kernel

/-- The rows of chunk `k` that are multiplied, its scales, and the columns of the result they make. -/
abbrev rW (k : Fin 16) : Rect S8192x512 := Rect.unit (s := S8192x512) ![512 * k.val, 0] S256x512.size (inbW k)
abbrev rS (k : Fin 16) : Rect S16x512 := Rect.unit (s := S16x512) ![k.val, 0] S1x256.size (inbS k)
abbrev rQ (k : Fin 16) : Rect S256x4096 := Rect.unit (s := S256x4096) ![0, 256 * k.val] S256x256.size (inbQ k)

/-- Multiply by chunk `k`. -/
def mulP (x : Vec F S256x512 .bf16) (k : Fin 16) : KProg F PUnit := do
  let w ← Prog.lift (.load aM (rW k).toLoadRect (View.loadsAt_vmem h_S256x512))
  let s ← Prog.lift (.load bM (rS k).toLoadRect (View.loadsAt_vmem h_S1x256))
  let _ ← Prog.lift (.load qM (rQ k).toLoadRect (View.loadsAt_vmem h_S256x256))
  Prog.lift (.store qM (rQ k) (qBlk x w s) Finset.univ
    (View.stores_vmem h_S256x256 ((Memref.isWhole_whole cc0_stg3_0).storeExact_slice rfl _ (packedQ k)) (fun _ => rfl)) (.inl rfl))

abbrev barS : Sem sig := (SemArray.scalar (sig.barrier 0 rfl) : Sems sig S_).sem

/-- The own chunk's rows of the gathered weights, and the own row of the scales. -/
abbrev rOwnW (c : Dev nD) : Rect S8192x512 := Rect.unit (s := S8192x512) (k0_off1 c) S512x512.size (k0_off1_inb c)
abbrev rOwnS (c : Dev nD) : Rect S16x512 := Rect.unit (s := S16x512) (k0_off2 c) S1x512.size (k0_off2_inb c)
abbrev rAllW : Rect S512x512 := Rect.unit (s := S512x512) ![0, 0] S512x512.size inb_S512x512_S512x512_0_0
abbrev rAllS : Rect S1x512 := Rect.unit (s := S1x512) ![0, 0] S1x512.size inb_S1x512_S1x512_0_0
abbrev rAllX : Rect S256x512 := Rect.unit (s := S256x512) ![0, 0] S256x512.size inb_S256x512_S256x512_0_0

/-- The whole body on device `c`, in program order. -/
def bodyP (c : Dev nD) : KProg F PUnit := do
  semSignalWord (left c) barS 1#32
  semSignalWord (right c) barS 1#32
  semWaitWord barS 2#32
  let w ← Prog.lift (.load wM rAllW.toLoadRect (View.loadsAt_vmem h_S512x512))
  let _ ← Prog.lift (.load aM (rOwnW c).toLoadRect (View.loadsAt_vmem h_S512x512))
  Prog.lift (.store aM (rOwnW c) (k0_pay1 w) Finset.univ
    (View.stores_vmem h_S512x512 ((Memref.isWhole_whole cc0_stg4_0).storeExact_slice rfl _ (k0_off1_packedi8 c)) (fun _ => rfl)) (.inl rfl))
  let s ← Prog.lift (.load cM rAllS.toLoadRect (View.loadsAt_vmem h_S1x512))
  let _ ← Prog.lift (.load bM (rOwnS c).toLoadRect (View.loadsAt_vmem h_S1x512))
  Prog.lift (.store bM (rOwnS c) (k0_pay2 s) Finset.univ (View.stores_vmem_bits_univ h_S1x512 rfl) (.inl rfl))
  seqP (passP c) (seqP (recvP c) (seqP (doneP c) (do
    let x ← Prog.lift (.load xM rAllX.toLoadRect (View.loadsAt_vmem h_S256x512))
    seqP (mulP x) (pure ⟨⟩) [0, 1, 2, 3, 4, 5, 6, 7, 8, 9, 10, 11, 12, 13, 14, 15]) sends) arrivals) sends

set_option maxHeartbeats 0 in
/-- The printed body is that. -/
theorem body_eq :
    cc0__ag_body (F := F) xM (Memref.isWhole_whole _) wM (Memref.isWhole_whole _) cM (Memref.isWhole_whole _) qM (Memref.isWhole_whole _)
      aM (Memref.isWhole_whole _) bM (Memref.isWhole_whole _) cc0_scratch0 cc0_scratch1 cc0_scratch2 cc0_scratch3 cc0_scratch4 cc0_scratch5
      cc0_scratch6 cc0_scratch7
      = Prog.op .deviceId fun c => bodyP c := by
  chain_rfl

end Cert.AllGather
-- ==== Proof.Ring.lean ====
/-
  The ring and the pieces of the gathered arrays.

  The devices' numbers wind through the mesh; `devAt p` is the device at place `p` of the ring and `pos` its inverse. Forward
  piece `h` on a device is the chunk of the device `h` places before it, backward piece `h` that of the device `h` places
  after it (`chF`, `chB`). The pieces of the two gathered buffers are the sets `setW k i` (rows `512 k + 128 i` and the 127
  after) and `setS k` (row `k`); every view of the kernel's transfers has one of them as its elements.
-/
module

public import proofs.«01_k».proof.Proof.Wires

@[expose] public section

set_option maxRecDepth 16384

noncomputable section

namespace Cert.AllGather

open Cert.KernelIdeal Cert.KernelIdeal.Gen
open Idealize.ShloMosaic Idealize.ShloMosaic.TcCoe
open Idealize.SL Idealize.SL.Sem

/-! ## The ring -/

/-- The place of a device on the ring. -/
def pos (c : Dev nD) : Nat := 4 * (c.val % 4) + if c.val % 4 % 2 = 0 then c.val / 4 else 3 - c.val / 4
/-- The device at a place. -/
def devAt (p : Nat) : Dev nD := ⟨4 * (if p / 4 % 2 = 0 then p % 4 else 3 - p % 4) + p / 4 % 4, by
  have : (if p / 4 % 2 = 0 then p % 4 else 3 - p % 4) ≤ 3 := by split <;> omega
  show _ < 16; omega⟩

def nxt (c : Dev nD) : Dev nD := devAt ((pos c + 1) % 16)
def prv (c : Dev nD) : Dev nD := devAt ((pos c + 15) % 16)
/-- The chunk that is forward piece `h` on device `c`. -/
def chF (c : Dev nD) (h : Nat) : Dev nD := devAt ((pos c + 16 - h) % 16)
/-- The chunk that is backward piece `h` on device `c`. -/
def chB (c : Dev nD) (h : Nat) : Dev nD := devAt ((pos c + h) % 16)

theorem prv_nxt (c : Dev nD) : prv (nxt c) = c := by revert c; decide
theorem nxt_prv (c : Dev nD) : nxt (prv c) = c := by revert c; decide
theorem nxt_ne_prv (c : Dev nD) : nxt c ≠ prv c := by revert c; decide
theorem chF_zero (c : Dev nD) : chF c 0 = c := by revert c; decide
theorem chB_zero (c : Dev nD) : chB c 0 = c := by revert c; decide
theorem chF_nxt (c : Dev nD) (h : Fin 8) : chF (nxt c) (h.val + 1) = chF c h.val := by revert c h; decide
theorem chB_prv (c : Dev nD) (h : Fin 7) : chB (prv c) (h.val + 1) = chB c h.val := by revert c h; decide

def ring : Dev nD ≃ Dev nD := ⟨nxt, prv, prv_nxt, nxt_prv⟩

theorem right_eq (c : Dev nD) : right c = nxt c := by revert c; decide +kernel
theorem left_eq (c : Dev nD) : left c = prv c := by revert c; decide +kernel

/-! ## Which way a transfer goes, and which piece it is -/

def Xf.isFwd : Xf → Bool
  | .fwd _ _ => true
  | .bwd _ _ => false
def Xf.hop : Xf → Nat
  | .fwd h _ => h.val
  | .bwd h _ => h.val
def Xf.lane : Xf → Lane
  | .fwd _ l => l
  | .bwd _ l => l

/-- The device `x` is sent to, and the one it is received from. -/
def tgt (x : Xf) (c : Dev nD) : Dev nD := if x.isFwd then nxt c else prv c
def src (x : Xf) (c : Dev nD) : Dev nD := if x.isFwd then prv c else nxt c
theorem tgt_src (x : Xf) (c : Dev nD) : tgt x (src x c) = c := by
  unfold tgt src; split <;> first | exact nxt_prv c | exact prv_nxt c
theorem src_tgt (x : Xf) (c : Dev nD) : src x (tgt x c) = c := by
  unfold tgt src; split <;> first | exact nxt_prv c | exact prv_nxt c

/-- The chunk device `c` sends as `x`, and the chunk that lands on it as `x`. -/
def chOut (c : Dev nD) : Xf → Dev nD
  | .fwd h _ => chF c h.val
  | .bwd h _ => chB c h.val
def chIn (c : Dev nD) : Xf → Dev nD
  | .fwd h _ => chF c (h.val + 1)
  | .bwd h _ => chB c (h.val + 1)
/-- What is sent lands at the same place. -/
theorem chIn_tgt (x : Xf) (c : Dev nD) : chIn (tgt x c) x = chOut c x := by
  rcases x with ⟨h, l⟩ | ⟨h, l⟩
  · exact chF_nxt c h
  · exact chB_prv c h
/-- What is passed on is what landed before. -/
theorem chIn_pred {x y : Xf} (hy : pred x = some y) (c : Dev nD) : chIn c y = chOut c x ∧ y.lane = x.lane ∧ y.hop + 1 = x.hop := by
  rcases x with ⟨⟨_ | h, hh⟩, l⟩ | ⟨⟨_ | h, hh⟩, l⟩
  · cases hy
  · cases hy; exact ⟨rfl, rfl, rfl⟩
  · cases hy
  · cases hy; exact ⟨rfl, rfl, rfl⟩
theorem chOut_zero {x : Xf} (hx : pred x = none) (c : Dev nD) : chOut c x = c := by
  rcases x with ⟨⟨_ | h, hh⟩, l⟩ | ⟨⟨_ | h, hh⟩, l⟩
  · exact chF_zero c
  · cases hx
  · exact chB_zero c
  · cases hx

/-! ## The pieces -/

/-- Rows `512 k + 128 i` to `512 k + 128 i + 127` of the gathered weights. -/
def setW (k : Dev nD) (i : Fin 4) : Finset (S8192x512.Idx) := Finset.univ.filter fun j => (j 0).val / 128 = 4 * k.val + i.val
/-- Row `k` of the gathered scales. -/
def setS (k : Dev nD) : Finset (S16x512.Idx) := Finset.univ.filter fun j => (j 0).val = k.val

theorem mem_setW {k : Dev nD} {i : Fin 4} {j : S8192x512.Idx} : j ∈ setW k i ↔ (j 0).val / 128 = 4 * k.val + i.val := by
  unfold setW; rw [Finset.mem_filter]; exact and_iff_right (Finset.mem_univ _)
theorem mem_setS {k : Dev nD} {j : S16x512.Idx} : j ∈ setS k ↔ (j 0).val = k.val := by
  unfold setS; rw [Finset.mem_filter]; exact and_iff_right (Finset.mem_univ _)

theorem rows_set (o : Fin 2 → Nat) (inb : ∀ a, o a + S128x512.size a ≤ S8192x512.size a) (k : Dev nD) (i : Fin 4)
    (h : o = ![512 * k.val + 128 * i.val, 0]) : (Rect.unit (s := S8192x512) o S128x512.size inb).set = setW k i := by
  subst h
  ext j
  rw [Rect.mem_set_unit, mem_setW]
  have h1 : (j 1).val < 512 := (j 1).isLt
  have h0 : (j 0).val < 8192 := (j 0).isLt
  constructor
  · intro H
    have := H 0
    simp only [Matrix.cons_val_zero, S128x512] at this
    omega
  · intro H a
    fin_cases a
    · simp only [S128x512, Fin.zero_eta, Matrix.cons_val_zero]; omega
    · simp only [S128x512, Fin.mk_one, Matrix.cons_val_one, Matrix.cons_val_zero]; omega

theorem row_set (o : Fin 2 → Nat) (inb : ∀ a, o a + S1x512.size a ≤ S16x512.size a) (k : Dev nD)
    (h : o = ![k.val, 0]) : (Rect.unit (s := S16x512) o S1x512.size inb).set = setS k := by
  subst h
  ext j
  rw [Rect.mem_set_unit, mem_setS]
  have h1 : (j 1).val < 512 := (j 1).isLt
  constructor
  · intro H
    have := H 0
    simp only [Matrix.cons_val_zero, S1x512] at this
    omega
  · intro H a
    fin_cases a
    · simp only [S1x512, Fin.zero_eta, Matrix.cons_val_zero]; omega
    · simp only [S1x512, Fin.mk_one, Matrix.cons_val_one, Matrix.cons_val_zero]; omega

theorem off3_eq (c : Dev nD) (h : Fin 9) (l : Fin 4) :
    k0_off3 c (BitVec.ofNat 32 h.val) (BitVec.ofNat 32 (128 * l.val)) = ![512 * (chF c h.val).val + 128 * l.val, 0] := by
  revert c h l; decide +kernel
theorem off4_eq (c : Dev nD) (h : Fin 8) (l : Fin 4) :
    k0_off4 c (BitVec.ofNat 32 h.val) (BitVec.ofNat 32 (128 * l.val)) = ![512 * (chB c h.val).val + 128 * l.val, 0] := by
  revert c h l; decide +kernel
theorem off5_eq (c : Dev nD) (h : Fin 9) : k0_off5 c (BitVec.ofNat 32 h.val) = ![(chF c h.val).val, 0] := by
  revert c h; decide +kernel
theorem off6_eq (c : Dev nD) (h : Fin 8) : k0_off6 c (BitVec.ofNat 32 h.val) = ![(chB c h.val).val, 0] := by
  revert c h; decide +kernel
theorem off1_eq (c : Dev nD) : k0_off1 c = ![512 * c.val, 0] := by revert c; decide +kernel
theorem off2_eq (c : Dev nD) : k0_off2 c = ![c.val, 0] := by revert c; decide +kernel

theorem fwV_set (c : Dev nD) (h : Fin 9) (l : Fin 4) : (fwV c h l).view.set = setW (chF c h.val) l :=
  (View.set_slice_whole cc0_stg4_0 _).trans (rows_set _ _ _ _ (off3_eq c h l))
theorem bwV_set (c : Dev nD) (h : Fin 8) (l : Fin 4) : (bwV c h l).view.set = setW (chB c h.val) l :=
  (View.set_slice_whole cc0_stg4_0 _).trans (rows_set _ _ _ _ (off4_eq c h l))
theorem fsV_set (c : Dev nD) (h : Fin 9) : (fsV c h).view.set = setS (chF c h.val) :=
  (View.set_slice_whole cc0_stg5_0 _).trans (row_set _ _ _ (off5_eq c h))
theorem bsV_set (c : Dev nD) (h : Fin 8) : (bsV c h).view.set = setS (chB c h.val) :=
  (View.set_slice_whole cc0_stg5_0 _).trans (row_set _ _ _ (off6_eq c h))

/-! ## Every piece lands once -/

/-- The pieces of the two buffers, seen from a device: the own ones, and one for every transfer it receives. -/
def slot (c : Dev nD) : Lane ⊕ Xf → Dev nD × Lane
  | .inl l => (c, l)
  | .inr x => (chIn c x, x.lane)

/-- Which transfer brings a piece: the place of its chunk on the ring, counted from the device, says it. -/
def unslot (c : Dev nD) (p : Dev nD × Lane) : Lane ⊕ Xf :=
  let b := (pos c + 16 - pos p.1) % 16
  if hb : b = 0 then .inl p.2
  else if hf : b ≤ 8 then .inr (.fwd ⟨b - 1, by omega⟩ p.2)
  else .inr (.bwd ⟨15 - b, by omega⟩ p.2)

theorem unslot_slot (c : Dev nD) (y : Lane ⊕ Xf) : unslot c (slot c y) = y := by
  have hF : ∀ (c : Dev nD) (h : Fin 8), (pos c + 16 - pos (chF c (h.val + 1))) % 16 = h.val + 1 := by decide
  have hB : ∀ (c : Dev nD) (h : Fin 7), (pos c + 16 - pos (chB c (h.val + 1))) % 16 = 15 - h.val := by decide
  have h0 : ∀ c : Dev nD, (pos c + 16 - pos c) % 16 = 0 := by decide
  rcases y with l | ⟨h, l⟩ | ⟨h, l⟩
  · unfold unslot slot; simp only [h0, dif_pos]
  · have := h.isLt
    unfold unslot slot chIn Xf.lane
    simp only [hF]
    rw [dif_neg (by omega), dif_pos (by omega)]
    rfl
  · have := h.isLt
    unfold unslot slot chIn Xf.lane
    simp only [hB]
    rw [dif_neg (by omega), dif_neg (by omega)]
    refine congrArg (fun h => Sum.inr (Xf.bwd h l)) (Fin.ext ?_)
    show 15 - (15 - h.val) = h.val
    omega
theorem slot_unslot (c : Dev nD) (p : Dev nD × Lane) : slot c (unslot c p) = p := by
  have hk : ∀ (c k : Dev nD),
      if (pos c + 16 - pos k) % 16 = 0 then c = k
      else if (pos c + 16 - pos k) % 16 ≤ 8 then chF c ((pos c + 16 - pos k) % 16 - 1 + 1) = k
      else chB c (15 - (pos c + 16 - pos k) % 16 + 1) = k := by decide
  obtain ⟨k, l⟩ := p
  have H := hk c k
  unfold unslot
  by_cases h0 : (pos c + 16 - pos k) % 16 = 0
  · rw [if_pos h0] at H
    simp only [h0, dif_pos]; unfold slot; rw [H]
  · rw [if_neg h0] at H
    by_cases h8 : (pos c + 16 - pos k) % 16 ≤ 8
    · rw [if_pos h8] at H
      simp only [h0, h8, dif_pos, dif_neg, not_false_eq_true]
      unfold slot chIn Xf.lane
      exact Prod.ext H rfl
    · rw [if_neg h8] at H
      simp only [h0, h8, dif_neg, not_false_eq_true]
      unfold slot chIn Xf.lane
      exact Prod.ext H rfl

def slots (c : Dev nD) : Lane ⊕ Xf ≃ Dev nD × Lane := ⟨slot c, unslot c, unslot_slot c, slot_unslot c⟩

end Cert.AllGather
-- ==== Proof.Protocol.lean ====
/-
  The protocol of the all-gather: who pays which semaphore, what every payment hands over, and what everyone owes.

  * A device's barrier semaphore is paid one unit by each ring neighbour and waited for once. The right neighbour's unit hands
    over that neighbour's landing places for the forward transfers, the left neighbour's those for the backward transfers.
  * The semaphore of a transfer's source is paid by the transfer once it has read the source, and hands the source back.
  * The semaphore of its landing is paid when it has landed, and hands the receiver the piece holding what the gathered array
    holds there in the end: `WALL` for the weights, `SALL` for the scales, the same for every device.

  The order that rules out a deadlock: barrier semaphores below the landing semaphores, these by hop.
-/
module

public import proofs.«01_k».proof.Proof.Ring
public import Idealize.ShloMosaic.Lib.Pipeline.BigSepL

@[expose] public section

set_option maxRecDepth 16384

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state, beside the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's semaphores of the protocol: the barrier, and two of every transfer (`true`: of its landing). -/
abbrev Ck : Type := Option (Bool × Xf)

def csem : Ck → SemLoc sig
  | none => .reg barS
  | some (false, x) => .dma (sS x)
  | some (true, x) => .dma (sR x)

/-- Which of them a semaphore is. -/
def role : SemLoc sig → Option Ck
  | .reg _ => some none
  | .dma q => sends.findSome? fun x => if sS x = q then some (some (false, x)) else if sR x = q then some (some (true, x)) else none

theorem role_send (x : Xf) : role (.dma (sS x)) = some (some (false, x)) := by
  have h : ∀ x ∈ sends, role (.dma (sS x)) = some (some (false, x)) := by decide +kernel
  exact h x (mem_sends x)
theorem role_recv (x : Xf) : role (.dma (sR x)) = some (some (true, x)) := by
  have h : ∀ x ∈ sends, role (.dma (sR x)) = some (some (true, x)) := by decide +kernel
  exact h x (mem_sends x)
theorem role_csem (k : Ck) : role (csem k) = some k := by
  rcases k with _ | ⟨_ | _, x⟩
  · rfl
  · exact role_send x
  · exact role_recv x
theorem csem_injective : Function.Injective csem := fun a b h => by
  have := congrArg role h; rw [role_csem, role_csem] at this; exact Option.some.inj this

def kcell (ck : Dev nD × Ck) : GSem nD τ sig := ((ck.1 : Thread nD τ), csem ck.2)
abbrev barCell (c : Dev nD) : GSem nD τ sig := ((c : Thread nD τ), .reg barS)
abbrev sendCell (c : Dev nD) (x : Xf) : GSem nD τ sig := ((c : Thread nD τ), .dma (sS x))
abbrev recvCell (c : Dev nD) (x : Xf) : GSem nD τ sig := ((c : Thread nD τ), .dma (sR x))

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- What a transfer of a lane adds to its semaphores. -/
def NB : Lane → ℕ
  | .w _ => (fwV 0 0 0).view.dmaCredit
  | .s => (fsV 0 0).view.dmaCredit
theorem NB_pos (l : Lane) : 0 < NB l := by
  rcases l with i | _
  · exact View.dmaCredit_pos _ (by decide)
  · exact View.dmaCredit_pos _ (by decide)

/-! ## Contents -/

/-- The share of a piece its transfer takes: the own chunk goes both ways, half of it each. -/
def shr : Xf → PosShare TreeShare
  | .fwd ⟨0, _⟩ _ => fullShare.left
  | .bwd ⟨0, _⟩ _ => fullShare.right
  | _ => fullShare
theorem shr_pass {x y : Xf} (hy : pred x = some y) : shr x = fullShare := by
  rcases x with ⟨⟨_ | h, hh⟩, l⟩ | ⟨⟨_ | h, hh⟩, l⟩
  · cases hy
  · rfl
  · cases hy
  · rfl

-- the weights and the scales each device holds before the gathering
variable (wsh : Dev nD → (cc0_stg1_0 : Ref sig .tc).ty.Contents (Elt F)) (ssh : Dev nD → (cc0_stg2_0 : Ref sig .tc).ty.Contents (Elt F))

/-- The gathered weights: device `k`'s at rows `512 k`. -/
def WALL : (cc0_stg4_0 : Ref sig .tc).ty.Contents (Elt F) := fun (j : S8192x512.Idx) =>
  wsh ⟨(j 0).val / 512, by have : (j 0).val < 8192 := (j 0).isLt; show _ < 16; omega⟩
    (fun a => match a with
      | ⟨0, _⟩ => (⟨(j 0).val % 512, Nat.mod_lt _ (by decide)⟩ : Fin 512)
      | ⟨1, _⟩ => (⟨(j 1).val, (j 1).isLt⟩ : Fin 512))
/-- The gathered scales: device `k`'s at row `k`. -/
def SALL : (cc0_stg5_0 : Ref sig .tc).ty.Contents (Elt F) := fun (j : S16x512.Idx) =>
  ssh ⟨(j 0).val, by have : (j 0).val < 16 := (j 0).isLt; exact this⟩
    (fun a => match a with
      | ⟨0, _⟩ => (⟨0, by decide⟩ : Fin 1)
      | ⟨1, _⟩ => (⟨(j 1).val, (j 1).isLt⟩ : Fin 512))

abbrev aLoc (c : Dev nD) : Loc nD τ sig := (c : Thread nD τ).loc cc0_stg4_0
abbrev bLoc (c : Dev nD) : Loc nD τ sig := (c : Thread nD τ).loc cc0_stg5_0

/-- The piece `(k, l)` on device `c`, holding what it must. -/
def pc (c k : Dev nD) (l : Lane) (q : PosShare TreeShare) : sProp 𝕄 :=
  match l with
  | .w i => aLoc c ↦[setW k i]{q} WALL wsh
  | .s => bLoc c ↦[setS k]{q} SALL ssh
/-- The piece `(k, l)` on device `c`, holding anything. -/
def hole (c k : Dev nD) (l : Lane) : sProp 𝕄 :=
  match l with
  | .w i => iprop(∃ f : Buf (Elt F) (aLoc c), aLoc c ↦[setW k i]{fullShare} f)
  | .s => iprop(∃ f : Buf (Elt F) (bLoc c), bLoc c ↦[setS k]{fullShare} f)

omit [FloatOps F] in
instance pc_storable (c k : Dev nD) (l : Lane) (q) : BI.Storable (upEmb : UEmb _ 𝕄) (pc wsh ssh c k l q) := by
  unfold pc; split <;> infer_instance
omit [FloatOps F] in
instance hole_storable (c k : Dev nD) (l : Lane) : BI.Storable (upEmb : UEmb _ 𝕄) (hole (F := F) c k l) := by
  unfold hole; split <;> infer_instance

/-! ## The schedule -/

/-- The transfers of one direction. -/
def dir (d : Bool) : Finset Xf := Finset.univ.filter fun x => x.isFwd = d

/-- What the barrier unit of one neighbour hands device `c`: for every transfer in that direction the landing place there, and
    that the neighbour stands ready to be paid. -/
def barPay (c : Dev nD) (d : Bool) : sProp 𝕄 :=
  bigSep (dir d) fun x => iprop(hole (tgt x c) (chOut c x) x.lane ∗ reached ER (recvCell (tgt x c) x) 0)
def recvPay (c : Dev nD) (x : Xf) : sProp 𝕄 := pc wsh ssh c (chIn c x) x.lane fullShare
def sendPay (c : Dev nD) (x : Xf) : sProp 𝕄 := pc wsh ssh c (chOut c x) x.lane (shr x)

/-- The schedule: one round for every cell. -/
def sched : Rounds.Schedule (GSem nD τ sig) Bool 𝕄 where
  duties g r := if r = 0 ∧ g.1.2 = .tc then (match role g.2 with
    | none => ∅
    | some none => Finset.univ
    | some (some _) => {false}) else ∅
  unitless _ := False
  amount g _ _ := match role g.2 with
    | none => 1
    | some none => 1
    | some (some (_, x)) => NB x.lane
  payload g _ d := match role g.2 with
    | none => iprop(emp)
    | some none => barPay g.1.1 d
    | some (some (false, x)) => sendPay wsh ssh g.1.1 x
    | some (some (true, x)) => recvPay wsh ssh g.1.1 x
  amount_pos g _ _ _ := by
    split
    · exact Nat.one_pos
    · exact Nat.one_pos
    · exact NB_pos _

omit [FloatOps F] in
instance sched_payload_storable (g : GSem nD τ sig) (r : ℕ) (d : Bool) :
    BI.Storable (upEmb : UEmb _ 𝕄) ((sched wsh ssh).payload g r d) := by
  dsimp only [sched]
  unfold barPay sendPay recvPay
  split <;> infer_instance

section Sched
variable (c : Dev nD) (x : Xf)

omit [FloatOps F] in
theorem duties_bar : (sched wsh ssh).duties (barCell c) 0 = Finset.univ := by dsimp only [sched]; exact if_pos ⟨rfl, rfl⟩
omit [FloatOps F] in
theorem duties_send : (sched wsh ssh).duties (sendCell c x) 0 = {false} := by
  dsimp only [sched]; rw [if_pos ⟨rfl, rfl⟩, role_send]
omit [FloatOps F] in
theorem duties_recv : (sched wsh ssh).duties (recvCell c x) 0 = {false} := by
  dsimp only [sched]; rw [if_pos ⟨rfl, rfl⟩, role_recv]
omit [FloatOps F] in
theorem duties_later (g : GSem nD τ sig) : ∀ r, 1 ≤ r → (sched wsh ssh).duties g r = ∅ :=
  fun r hr => by dsimp only [sched]; exact if_neg fun h => by omega
omit [FloatOps F] in
theorem amount_bar (d : Bool) : (sched wsh ssh).amount (barCell c) 0 d = 1 := rfl
omit [FloatOps F] in
theorem amount_send (d : Bool) : (sched wsh ssh).amount (sendCell c x) 0 d = NB x.lane := by dsimp only [sched]; rw [role_send]
omit [FloatOps F] in
theorem amount_recv (d : Bool) : (sched wsh ssh).amount (recvCell c x) 0 d = NB x.lane := by dsimp only [sched]; rw [role_recv]
omit [FloatOps F] in
theorem expect_bar : (sched wsh ssh).expect (barCell c) 0 = 2 := by
  unfold Schedule.expect Schedule.amountOf
  rw [duties_bar, Finset.sum_congr rfl fun d _ => amount_bar wsh ssh c d, Finset.sum_const, Finset.card_univ, Fintype.card_bool, smul_eq_mul]
omit [FloatOps F] in
theorem expect_send : (sched wsh ssh).expect (sendCell c x) 0 = NB x.lane := by
  unfold Schedule.expect Schedule.amountOf; rw [duties_send, Finset.sum_singleton, amount_send]
omit [FloatOps F] in
theorem expect_recv : (sched wsh ssh).expect (recvCell c x) 0 = NB x.lane := by
  unfold Schedule.expect Schedule.amountOf; rw [duties_recv, Finset.sum_singleton, amount_recv]
omit [FloatOps F] in
theorem payload_bar (d : Bool) : (sched wsh ssh).payload (barCell c) 0 d = barPay c d := rfl
omit [FloatOps F] in
theorem payload_send (d : Bool) : (sched wsh ssh).payload (sendCell c x) 0 d = sendPay wsh ssh c x := by dsimp only [sched]; rw [role_send]
omit [FloatOps F] in
theorem payload_recv (d : Bool) : (sched wsh ssh).payload (recvCell c x) 0 d = recvPay wsh ssh c x := by dsimp only [sched]; rw [role_recv]

omit [FloatOps F] in
/-- Both barrier units together: for every transfer its landing place. -/
theorem rest_bar : bigSep ((sched wsh ssh).duties (barCell c) 0 \ ∅) (fun d => (sched wsh ssh).payload (barCell c) 0 d)
    = bigSep Finset.univ fun x => iprop(hole (F := F) (tgt x c) (chOut c x) x.lane ∗ reached ER (recvCell (tgt x c) x) 0) := by
  rw [Finset.sdiff_empty, duties_bar, bigSep_univ_eq_bigSepL [true, false] (by decide) (by decide), bigSepL_cons_cons, bigSepL_singleton,
    payload_bar, payload_bar]
  unfold barPay
  rw [BI.bigSep_filter_split (s := Finset.univ) (fun x : Xf => x.isFwd = true)]
  unfold dir
  simp only [Bool.not_eq_true]
omit [FloatOps F] in
theorem rest_send : bigSep ((sched wsh ssh).duties (sendCell c x) 0 \ ∅) (fun d => (sched wsh ssh).payload (sendCell c x) 0 d) = sendPay wsh ssh c x := by
  rw [Finset.sdiff_empty, duties_send, bigSep_singleton, payload_send]
omit [FloatOps F] in
theorem rest_recv : bigSep ((sched wsh ssh).duties (recvCell c x) 0 \ ∅) (fun d => (sched wsh ssh).payload (recvCell c x) 0 d) = recvPay wsh ssh c x := by
  rw [Finset.sdiff_empty, duties_recv, bigSep_singleton, payload_recv]

end Sched

/-! ## What is owed, and the levels -/

/-- What device `c` owes for the transfers still to be sent. -/
def owedL (c : Dev nD) : List Xf → CellTallies nD τ sig Unit
  | [] => 0
  | x :: xs => owedL c xs + tallyAt (recvCell (tgt x c) x) () (NB x.lane)

/-- What device `c` owes at the start: its transfers and a unit to each neighbour's barrier. -/
def O₁ (c : Dev nD) : CellTallies nD τ sig Unit := owedL c sends + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the landing cells of hop `h` at `2 + h`, everything else at 0. -/
def lv (g : GSem nD τ sig) (_ : Unit) : ℕ := match role g.2 with
  | none => 0
  | some none => 1
  | some (some (false, _)) => 0
  | some (some (true, x)) => 2 + x.hop

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : Xf) : lv (recvCell c x) () = 2 + x.hop := by dsimp only [lv]; rw [role_recv]
theorem lv_bar (c : Dev nD) : lv (barCell c) () = 1 := rfl
theorem lv_send (c : Dev nD) (x : Xf) : lv (sendCell c x) () = 0 := by dsimp only [lv]; rw [role_send]

theorem owedL_pos {c : Dev nD} {xs : List Xf} {g : GSem nD τ sig} {u : Unit} (h : 0 < owedL c xs g u) :
    ∃ x ∈ xs, g = recvCell (tgt x c) x := by
  induction xs with
  | nil => exact absurd h (Nat.lt_irrefl 0)
  | cons x xs ih =>
    unfold owedL at h
    rw [Pi.add_apply, Finsupp.add_apply, tallyAt_apply] at h
    by_cases hg : g = recvCell (tgt x c) x
    · exact ⟨x, List.mem_cons_self, hg⟩
    · rw [if_neg fun h' => hg h'.1, Nat.add_zero] at h
      obtain ⟨y, hy, e⟩ := ih h
      exact ⟨y, List.mem_cons_of_mem _ hy, e⟩

omit [FloatOps F] in
/-- A cell may be waited for while only transfers of cells above it are owed. -/
theorem mayWait_owedL (c : Dev nD) (sm : SemLoc sig) (xs : List Xf) (b : ℕ) (hb : lv ((c : Thread nD τ), sm) () ≤ b)
    (hx : ∀ x ∈ xs, b < 2 + x.hop) : (levAts L lv : sProp 𝕄) ⊢ MayWait (c : Thread nD τ) sm () (owedL c xs) :=
  MayOwe.of_cut (L := L) (lev := lv) b (fun p hp => by rw [Finset.mem_singleton.mp hp, L_tc]; exact Finset.mem_singleton_self _)
    (fun g u hg => by obtain ⟨x, _, rfl⟩ := owedL_pos hg; exact Finset.mem_singleton_self _)
    (fun p hp => by rw [Finset.mem_singleton.mp hp]; exact hb)
    (fun g u hg => by obtain ⟨x, hx', rfl⟩ := owedL_pos hg; exact lt_of_lt_of_eq (hx x hx') (lv_recv _ _).symm)

omit [FloatOps F] in
/-- A staging cell may be waited for, owing everything or nothing. -/
theorem mayWait_stage (c : Dev nD) (sm : SemLoc sig) (hsm : role sm = none) (O : CellTallies nD τ sig Unit) (hO : O = O₀ c ∨ O = 0) :
    (levAts L lv : sProp 𝕄) ⊢ MayWait (c : Thread nD τ) sm () O := by
  rcases hO with rfl | rfl
  · have key : ∀ {g : GSem nD τ sig} {u : Unit}, 0 < O₀ c g u → u ∈ L g ∧ 0 < lv g u := fun {g u} hg => by
      unfold O₀ O₁ at hg
      rw [Pi.add_apply, Finsupp.add_apply, Pi.add_apply, Finsupp.add_apply, tallyAt_apply, tallyAt_apply] at hg
      by_cases h1 : g = barCell (prv c) ∧ u = ()
      · rw [h1.1]; exact ⟨Finset.mem_singleton_self _, Nat.one_pos⟩
      · by_cases h2 : g = barCell (nxt c) ∧ u = ()
        · rw [h2.1]; exact ⟨Finset.mem_singleton_self _, Nat.one_pos⟩
        · rw [if_neg h1, if_neg h2, Nat.add_zero] at hg
          obtain ⟨x, _, rfl⟩ := owedL_pos hg
          exact ⟨Finset.mem_singleton_self _, by rw [lv_recv]; omega⟩
    exact MayOwe.of_cut (L := L) (lev := lv) 0 (fun p hp => by rw [Finset.mem_singleton.mp hp, L_tc]; exact Finset.mem_singleton_self _)
      (fun g u hg => (key hg).1)
      (fun p hp => by rw [Finset.mem_singleton.mp hp]; dsimp only [lv]; rw [hsm])
      (fun g u hg => (key hg).2)
  · rw [MayWait_zero]; iintro -; iempintro

end Cert.AllGather
-- ==== Proof.Steps.lean ====
/-
  The steps of the body: a send, a wait for an arrival, a wait for a source to be read, and lists of them.
-/
module

public import proofs.«01_k».proof.Proof.Protocol

@[expose] public section

set_option maxRecDepth 16384

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (wsh : Dev nD → (cc0_stg1_0 : Ref sig .tc).ty.Contents (Elt F)) (ssh : Dev nD → (cc0_stg2_0 : Ref sig .tc).ty.Contents (Elt F))
variable (K : Dev nD × Ck → ℕ)

/-- The weakest precondition of the body's programs on device `c`. -/
abbrev WP (c : Dev nD) {α : Type} (p : KProg F α) (Q : α → sProp 𝕄) : sProp 𝕄 :=
  wp frame (wpE (defs₀ (F := F)) 𝒱₀ (c : Thread nD τ) none) Set.univ p Q

/-- Everyone's cells are under their invariants. -/
def invs : sProp 𝕄 := bigSep Finset.univ fun ck : Dev nD × Ck => cellInv ER (sched wsh ssh) (K ck) (kcell ck)
instance invs_persistent : BI.Persistent (invs wsh ssh K) := by unfold invs; infer_instance

omit [FloatOps F] in
theorem inv_at (ck : Dev nD × Ck) : invs wsh ssh K ⊢ cellInv ER (sched wsh ssh) (K ck) (kcell ck) :=
  bigSep_elim (Finset.mem_univ ck)

/-! ## A send -/

omit [FloatOps F] in
theorem pc_w (c k : Dev nD) (i : Fin 4) (q) : pc wsh ssh c k (.w i) q = (aLoc c ↦[setW k i]{q} WALL wsh : sProp 𝕄) := rfl
omit [FloatOps F] in
theorem pc_s (c k : Dev nD) (q) : pc wsh ssh c k .s q = (bLoc c ↦[setS k]{q} SALL ssh : sProp 𝕄) := rfl

/-- What a send of `x` takes from the protocol. -/
def sendIn (c : Dev nD) (x : Xf) : sProp 𝕄 :=
  iprop((hole (tgt x c) (chOut c x) x.lane ∗ reached ER (recvCell (tgt x c) x) 0)
    ∗ dutyTok ER (sendCell c x) 0 false ∗ reached ER (sendCell c x) 0 ∗ dutyTok ER (recvCell (tgt x c) x) 0 false)

/-- A piece of the gathered weights, and a row of the scales, as memrefs. -/
abbrev vW (o : Fin 2 → Nat) (inb : ∀ a, o a + S128x512.size a ≤ S8192x512.size a) : Memref sig .tc .vmem S128x512 .i8 :=
  aM.slice (Rect.unit (s := S8192x512) o S128x512.size inb) (fun _ => rfl)
abbrev vS (o : Fin 2 → Nat) (inb : ∀ a, o a + S1x512.size a ≤ S16x512.size a) : Memref sig .tc .vmem S1x512 .f32 :=
  bM.slice (Rect.unit (s := S16x512) o S1x512.size inb) (fun _ => rfl)

theorem vW_loc (o inb) (c : Dev nD) : (vW o inb).view.loc (c : Thread nD τ) = aLoc c := rfl
theorem vS_credit (o inb) : (vS o inb).view.dmaCredit = NB .s := rfl
theorem vW_credit (o inb) (i : Fin 4) : (vW o inb).view.dmaCredit = NB (.w i) := rfl

/-- A send of rows of weights, at whatever view has piece `x`'s elements. -/
theorem send_w (c n : Dev nD) (x : Xf) (hn : n = tgt x c) (i : Fin 4) (hl : x.lane = .w i) (o : Fin 2 → Nat)
    (inb : ∀ a, o a + S128x512.size a ≤ S8192x512.size a)
    (ho : (Rect.unit (s := S8192x512) o S128x512.size inb).set = setW (chOut c x) i)
    {hsc : (vW o inb : Memref sig (Dev.tc n : Thread nD τ).2.kind .vmem S128x512 .i8).view.ref.isScScratch = false}
    {hsrc : (vW o inb).view.WordExact}
    {hdst : (vW o inb).view.WordExact}
    {hsem : DmaTarget.Typed .vmem (.dma (sR x)) (.remote (Dev.tc n : Thread nD τ) (vW o inb) (.dma (sS x)) hsc)}
    {α : Type} {Q : α → sProp 𝕄} {k : PUnit → KProg F α} (O : CellTallies nD τ sig Unit) (W : Waits sig Unit) :
    iprop(invs wsh ssh K ∗ pc wsh ssh c (chOut c x) x.lane (shr x) ∗ sendIn c x
        ∗ owes (c : Thread nD τ) (O + tallyAt (recvCell (tgt x c) x) () (NB x.lane)) W)
      ⊢ iprop(((cred (tallyAt (sendCell c x) () (NB x.lane)) ∗ owes (c : Thread nD τ) O W) -∗ WP c (k ⟨⟩) Q)
          -∗ WP c (.op (.enqueueDma (vW o inb)
              (.remote (Dev.tc n : Thread nD τ) (vW o inb) (.dma (sS x)) hsc) (.dma (sR x)) hsrc hdst hsem) k) Q) := by
  subst hn
  have hset : (vW o inb).view.set = setW (chOut c x) i :=
    (View.set_slice_whole cc0_stg4_0 _).trans ho
  unfold sendIn
  iintro ⟨#HI, Hp, ⟨⟨Hh, Hr⟩, Hts, Hrs, Htr⟩, HO⟩
  rw [hl]
  ihave Hp' := (Entails.of_eq (show pc wsh ssh c (chOut c x) (.w i) (shr x)
      = ((vW o inb).view.loc (c : Thread nD τ)
        ↦[(vW o inb).view.set]{shr x} WALL wsh : sProp 𝕄) from by
      rw [hset]; rfl)) $$ Hp
  unfold hole
  icases Hh with ⟨%f, Hh⟩
  ihave Hh' := (Entails.of_eq (show (aLoc (tgt x c) ↦[setW (chOut c x) i]{fullShare} f : sProp 𝕄)
      = ((vW o inb).view.loc (tgt x c : Thread nD τ)
        ↦[(vW o inb).view.set]{fullShare} f : sProp 𝕄) from by
      rw [hset])) $$ Hh
  iapply (Rounds.wp_send_pointsTo 𝒱₀ ER (sched wsh ssh) (c : Thread nD τ) none (κ₁ := K (c, some (false, x))) (κ₂ := K (tgt x c, some (true, x)))
    (src := vW o inb) (dst := vW o inb) (sS := .dma (sS x)) (sem := .dma (sR x)) (c' := (tgt x c : Thread nD τ))
    (r₁ := 0) (r₂ := 0) (d₁ := false) (d₂ := false) (fs := WALL wsh) (fd := f)
    (by rw [duties_send]; exact Finset.mem_singleton_self _) (by rw [duties_recv]; exact Finset.mem_singleton_self _)
    () () (NB (.w i)) (vW_credit o inb i) ((amount_send wsh ssh c x false).trans (by rw [hl])) ((amount_recv wsh ssh (tgt x c) x false).trans (by rw [hl])) O rfl (W := W)
    (by rw [payload_send]; unfold sendPay; rw [hl, pc_w, hset])
    (by
      rw [payload_recv]; unfold recvPay; rw [hl, chIn_tgt, pc_w, hset]
      refine Entails.of_eq (pointsTo_congr fun j hj => ?_)
      rw [View.write_read_eq_piecewise, Finset.piecewise_eq_of_mem]
      show j ∈ (vW o inb).view.set
      rw [hset]; exact hj)) $$ [Hp' Hh' Hr Hts Hrs Htr HO]
  isplitr; · iapply (inv_at wsh ssh K (c, some (false, x))); iexact HI
  isplitr; · iapply (inv_at wsh ssh K (tgt x c, some (true, x))); iexact HI
  isplitl [Hp']; · iexact Hp'
  isplitl [Hh']; · iexact Hh'
  isplitl [HO]; · iexact HO
  isplitl [Hts]; · iexact Hts
  isplitl [Hrs]; · iexact Hrs
  isplitl [Htr]; · iexact Htr
  iexact Hr

/-- A send of a row of scales, at whatever view has piece `x`'s elements. -/
theorem send_s (c n : Dev nD) (x : Xf) (hn : n = tgt x c) (hl : x.lane = .s) (o : Fin 2 → Nat)
    (inb : ∀ a, o a + S1x512.size a ≤ S16x512.size a)
    (ho : (Rect.unit (s := S16x512) o S1x512.size inb).set = setS (chOut c x))
    {hsc : (vS o inb : Memref sig (Dev.tc n : Thread nD τ).2.kind .vmem S1x512 .f32).view.ref.isScScratch = false}
    {hsrc : (vS o inb).view.WordExact}
    {hdst : (vS o inb).view.WordExact}
    {hsem : DmaTarget.Typed .vmem (.dma (sR x)) (.remote (Dev.tc n : Thread nD τ) (vS o inb) (.dma (sS x)) hsc)}
    {α : Type} {Q : α → sProp 𝕄} {k : PUnit → KProg F α} (O : CellTallies nD τ sig Unit) (W : Waits sig Unit) :
    iprop(invs wsh ssh K ∗ pc wsh ssh c (chOut c x) x.lane (shr x) ∗ sendIn c x
        ∗ owes (c : Thread nD τ) (O + tallyAt (recvCell (tgt x c) x) () (NB x.lane)) W)
      ⊢ iprop(((cred (tallyAt (sendCell c x) () (NB x.lane)) ∗ owes (c : Thread nD τ) O W) -∗ WP c (k ⟨⟩) Q)
          -∗ WP c (.op (.enqueueDma (vS o inb)
              (.remote (Dev.tc n : Thread nD τ) (vS o inb) (.dma (sS x)) hsc) (.dma (sR x)) hsrc hdst hsem) k) Q) := by
  subst hn
  have hset : (vS o inb).view.set = setS (chOut c x) :=
    (View.set_slice_whole cc0_stg5_0 _).trans ho
  unfold sendIn
  iintro ⟨#HI, Hp, ⟨⟨Hh, Hr⟩, Hts, Hrs, Htr⟩, HO⟩
  rw [hl]
  ihave Hp' := (Entails.of_eq (show pc wsh ssh c (chOut c x) .s (shr x)
      = ((vS o inb).view.loc (c : Thread nD τ)
        ↦[(vS o inb).view.set]{shr x} SALL ssh : sProp 𝕄) from by
      rw [hset]; rfl)) $$ Hp
  unfold hole
  icases Hh with ⟨%f, Hh⟩
  ihave Hh' := (Entails.of_eq (show (bLoc (tgt x c) ↦[setS (chOut c x)]{fullShare} f : sProp 𝕄)
      = ((vS o inb).view.loc (tgt x c : Thread nD τ)
        ↦[(vS o inb).view.set]{fullShare} f : sProp 𝕄) from by
      rw [hset])) $$ Hh
  iapply (Rounds.wp_send_pointsTo 𝒱₀ ER (sched wsh ssh) (c : Thread nD τ) none (κ₁ := K (c, some (false, x))) (κ₂ := K (tgt x c, some (true, x)))
    (src := vS o inb) (dst := vS o inb) (sS := .dma (sS x)) (sem := .dma (sR x)) (c' := (tgt x c : Thread nD τ))
    (r₁ := 0) (r₂ := 0) (d₁ := false) (d₂ := false) (fs := SALL ssh) (fd := f)
    (by rw [duties_send]; exact Finset.mem_singleton_self _) (by rw [duties_recv]; exact Finset.mem_singleton_self _)
    () () (NB .s) (vS_credit o inb) ((amount_send wsh ssh c x false).trans (by rw [hl])) ((amount_recv wsh ssh (tgt x c) x false).trans (by rw [hl])) O rfl (W := W)
    (by rw [payload_send]; unfold sendPay; rw [hl, pc_s, hset])
    (by
      rw [payload_recv]; unfold recvPay; rw [hl, chIn_tgt, pc_s, hset]
      refine Entails.of_eq (pointsTo_congr fun j hj => ?_)
      rw [View.write_read_eq_piecewise, Finset.piecewise_eq_of_mem]
      show j ∈ (vS o inb).view.set
      rw [hset]; exact hj)) $$ [Hp' Hh' Hr Hts Hrs Htr HO]
  isplitr; · iapply (inv_at wsh ssh K (c, some (false, x))); iexact HI
  isplitr; · iapply (inv_at wsh ssh K (tgt x c, some (true, x))); iexact HI
  isplitl [Hp']; · iexact Hp'
  isplitl [Hh']; · iexact Hh'
  isplitl [HO]; · iexact HO
  isplitl [Hts]; · iexact Hts
  isplitl [Hrs]; · iexact Hrs
  isplitl [Htr]; · iexact Htr
  iexact Hr

/-- A send of `x`: its piece goes out, its source semaphore's credit comes, and nothing more is owed for it. -/
theorem send_step (c : Dev nD) (x : Xf) {α : Type} {Q : α → sProp 𝕄} {k : PUnit → KProg F α} (O : CellTallies nD τ sig Unit) (W : Waits sig Unit) :
    iprop(invs wsh ssh K ∗ pc wsh ssh c (chOut c x) x.lane (shr x) ∗ sendIn c x
        ∗ owes (c : Thread nD τ) (O + tallyAt (recvCell (tgt x c) x) () (NB x.lane)) W)
      ⊢ iprop(((cred (tallyAt (sendCell c x) () (NB x.lane)) ∗ owes (c : Thread nD τ) O W) -∗ WP c (k ⟨⟩) Q)
          -∗ WP c (sendP c x >>= k) Q) := by
  rcases x with ⟨h, l | _⟩ | ⟨h, l | _⟩
  · exact send_w wsh ssh K c (right c) (.fwd h (.w l)) (right_eq c) l rfl _ (k0_off3_inb c h.castSucc l) (rows_set _ _ _ _ (off3_eq c h.castSucc l)) O W
  · exact send_s wsh ssh K c (right c) (.fwd h .s) (right_eq c) rfl _ (k0_off5_inb c h.castSucc) (row_set _ _ _ (off5_eq c h.castSucc)) O W
  · exact send_w wsh ssh K c (left c) (.bwd h (.w l)) (left_eq c) l rfl _ (k0_off4_inb c h.castSucc l) (rows_set _ _ _ _ (off4_eq c h.castSucc l)) O W
  · exact send_s wsh ssh K c (left c) (.bwd h .s) (left_eq c) rfl _ (k0_off6_inb c h.castSucc) (row_set _ _ _ (off6_eq c h.castSucc)) O W

/-! ## The waits -/

omit [FloatOps F] in
theorem close_at (ck : Dev nD × Ck) : iprop(invs wsh ssh K ∗ atPos ER (kcell ck) (0 + 1) ∅ 0) ⊢ (|={Set.univ}=> semVal (kcell ck) 0 : sProp 𝕄) := by
  iintro ⟨#HI, Ha⟩
  iapply (Rounds.cell_close ER (sched wsh ssh) (Set.mem_univ (K ck)) (fun h => h) (R := 0 + 1) (duties_later wsh ssh (kcell ck)))
  isplitr; · iapply (inv_at wsh ssh K ck); iexact HI
  iexact Ha

/-- A wait for one of the protocol's landing cells, whatever the views named are: the piece comes, and the cell is done with. -/
theorem wait_recv (c : Dev nD) (x : Xf) {sp : Space} {sh : Shape} {e : EltTy} (v : Memref sig .tc sp sh e) (hv hv' : v.view.WordExact) (hcr : v.view.dmaCredit = NB x.lane)
    {α : Type} {Q : α → sProp 𝕄} {k : PUnit → KProg F α} (O : CellTallies nD τ sig Unit) (W : Waits sig Unit) :
    iprop(invs wsh ssh K ∗ (cred (tallyAt (recvCell c x) () (NB x.lane)) ∗ atPos ER (recvCell c x) 0 ∅ 0)
        ∗ owes (c : Thread nD τ) O W ∗ MayWait (c : Thread nD τ) (.dma (sR x)) () O)
      ⊢ iprop(((semVal (recvCell c x) 0 ∗ recvPay wsh ssh c x ∗ owes (c : Thread nD τ) O (insert (.dma (sR x), ()) W)) -∗ WP c (k ⟨⟩) Q)
          -∗ WP c (.op (.waitDma2 (sR x) v v hv hv') k) Q) := by
  iintro ⟨#HI, ⟨Hc, Ha⟩, HO, HM⟩ Hk
  iapply (Rounds.wp_wait_rest_token 𝒱₀ ER (sched wsh ssh) (c : Thread nD τ) none (κ := K (c, some (true, x)))
      (fun R => (wpE_waitDma2_eq 𝒱₀ (c : Thread nD τ) none Set.univ R).trans (by rw [hcr])) (Set.mem_univ _) () (O := O) (W := W) (R := 0) (m := 0) (T := ∅) (by rw [Nat.zero_add, expect_recv])) $$ [Hc HO Ha HM]
  · isplitr; · iapply (inv_at wsh ssh K (c, some (true, x))); iexact HI
    isplitl [Hc]; · iexact Hc
    isplitl [HO]; · iexact HO
    isplitl [HM]; · iexact HM
    iexact Ha
  iintro ⟨HO, Ha, -, Hp⟩
  imod (close_at wsh ssh K (c, some (true, x))) $$ [Ha] with Hz
  · isplitr; · iexact HI
    iexact Ha
  iapply Hk
  isplitl [Hz]; · iexact Hz
  isplitl [Hp]; · iapply (Entails.of_eq (rest_recv wsh ssh c x)); iexact Hp
  iexact HO

/-- Likewise for a source cell: the source comes back. -/
theorem wait_send (c : Dev nD) (x : Xf) {sp : Space} {sh : Shape} {e : EltTy} (v : Memref sig .tc sp sh e) (hv hv' : v.view.WordExact) (hcr : v.view.dmaCredit = NB x.lane)
    {α : Type} {Q : α → sProp 𝕄} {k : PUnit → KProg F α} (W : Waits sig Unit) :
    iprop(invs wsh ssh K ∗ (cred (tallyAt (sendCell c x) () (NB x.lane)) ∗ atPos ER (sendCell c x) 0 ∅ 0)
        ∗ owes (c : Thread nD τ) 0 W)
      ⊢ iprop(((semVal (sendCell c x) 0 ∗ sendPay wsh ssh c x ∗ owes (c : Thread nD τ) 0 (insert (.dma (sS x), ()) W)) -∗ WP c (k ⟨⟩) Q)
          -∗ WP c (.op (.waitDma2 (sS x) v v hv hv') k) Q) := by
  iintro ⟨#HI, ⟨Hc, Ha⟩, HO⟩ Hk
  iapply (Rounds.wp_wait_rest_token 𝒱₀ ER (sched wsh ssh) (c : Thread nD τ) none (κ := K (c, some (false, x)))
      (fun R => (wpE_waitDma2_eq 𝒱₀ (c : Thread nD τ) none Set.univ R).trans (by rw [hcr])) (Set.mem_univ _) () (O := 0) (W := W) (R := 0) (m := 0) (T := ∅) (by rw [Nat.zero_add, expect_send])) $$ [Hc HO Ha]
  · isplitr; · iapply (inv_at wsh ssh K (c, some (false, x))); iexact HI
    isplitl [Hc]; · iexact Hc
    isplitl [HO]; · iexact HO
    isplitr; · rw [MayWait_zero]; iempintro
    iexact Ha
  iintro ⟨HO, Ha, -, Hp⟩
  imod (close_at wsh ssh K (c, some (false, x))) $$ [Ha] with Hz
  · isplitr; · iexact HI
    iexact Ha
  iapply Hk
  isplitl [Hz]; · iexact Hz
  isplitl [Hp]; · iapply (Entails.of_eq (rest_send wsh ssh c x)); iexact Hp
  iexact HO

theorem recv_step (c : Dev nD) (x : Xf) {α : Type} {Q : α → sProp 𝕄} {k : PUnit → KProg F α} (O : CellTallies nD τ sig Unit) (W : Waits sig Unit) :
    iprop(invs wsh ssh K ∗ (cred (tallyAt (recvCell c x) () (NB x.lane)) ∗ atPos ER (recvCell c x) 0 ∅ 0)
        ∗ owes (c : Thread nD τ) O W ∗ MayWait (c : Thread nD τ) (.dma (sR x)) () O)
      ⊢ iprop(((semVal (recvCell c x) 0 ∗ recvPay wsh ssh c x ∗ owes (c : Thread nD τ) O (insert (.dma (sR x), ()) W)) -∗ WP c (k ⟨⟩) Q)
          -∗ WP c (recvP c x >>= k) Q) := by
  rcases x with ⟨h, l | _⟩ | ⟨h, l | _⟩
  · exact wait_recv wsh ssh K c (.fwd h (.w l)) (fwV c h.succ l) (fwV_words c _ l) (fwV_words c _ l) (vW_credit _ (k0_off3_inb c h.succ l) l) O W
  · exact wait_recv wsh ssh K c (.fwd h .s) (fsV c h.succ) (View.wordExact_bits rfl) (View.wordExact_bits rfl) (vS_credit _ (k0_off5_inb c h.succ)) O W
  · exact wait_recv wsh ssh K c (.bwd h (.w l)) (bwV c h.succ l) (bwV_words c _ l) (bwV_words c _ l) (vW_credit _ (k0_off4_inb c h.succ l) l) O W
  · exact wait_recv wsh ssh K c (.bwd h .s) (bsV c h.succ) (View.wordExact_bits rfl) (View.wordExact_bits rfl) (vS_credit _ (k0_off6_inb c h.succ)) O W

theorem done_step (c : Dev nD) (x : Xf) {α : Type} {Q : α → sProp 𝕄} {k : PUnit → KProg F α} (W : Waits sig Unit) :
    iprop(invs wsh ssh K ∗ (cred (tallyAt (sendCell c x) () (NB x.lane)) ∗ atPos ER (sendCell c x) 0 ∅ 0)
        ∗ owes (c : Thread nD τ) 0 W)
      ⊢ iprop(((semVal (sendCell c x) 0 ∗ sendPay wsh ssh c x ∗ owes (c : Thread nD τ) 0 (insert (.dma (sS x), ()) W)) -∗ WP c (k ⟨⟩) Q)
          -∗ WP c (doneP c x >>= k) Q) := by
  rcases x with ⟨h, l | _⟩ | ⟨h, l | _⟩
  · exact wait_send wsh ssh K c (.fwd h (.w l)) (fwV c h.castSucc l) (fwV_words c _ l) (fwV_words c _ l) (vW_credit _ (k0_off3_inb c h.castSucc l) l) W
  · exact wait_send wsh ssh K c (.fwd h .s) (fsV c h.castSucc) (View.wordExact_bits rfl) (View.wordExact_bits rfl) (vS_credit _ (k0_off5_inb c h.castSucc)) W
  · exact wait_send wsh ssh K c (.bwd h (.w l)) (bwV c h.castSucc l) (bwV_words c _ l) (bwV_words c _ l) (vW_credit _ (k0_off4_inb c h.castSucc l) l) W
  · exact wait_send wsh ssh K c (.bwd h .s) (bsV c h.castSucc) (View.wordExact_bits rfl) (View.wordExact_bits rfl) (vS_credit _ (k0_off6_inb c h.castSucc)) W

/-! ## Receive and pass on -/

/-- The piece `x` sends before it is sent: at the first hop the own one, later one that must arrive. -/
def atHand (c : Dev nD) (x : Xf) : sProp 𝕄 := match pred x with
  | none => pc wsh ssh c (chOut c x) x.lane (shr x)
  | some y => iprop(cred (tallyAt (recvCell c y) () (NB y.lane)) ∗ atPos ER (recvCell c y) 0 ∅ 0)
/-- The cell that was waited for before `x` was sent, done with. -/
def arrived (c : Dev nD) (x : Xf) : sProp 𝕄 := match pred x with
  | none => iprop(emp)
  | some y => semVal (recvCell c y) 0

theorem pass_step (c : Dev nD) (x : Xf) (xs : List Xf) (hx : ∀ z ∈ x :: xs, x.hop ≤ z.hop) {α : Type} {Q : α → sProp 𝕄} {k : PUnit → KProg F α} (W : Waits sig Unit) :
    iprop(invs wsh ssh K ∗ levAts L lv ∗ (atHand wsh ssh c x ∗ sendIn c x) ∗ owes (c : Thread nD τ) (owedL c (x :: xs)) W)
      ⊢ iprop((∀ W', (arrived c x ∗ cred (tallyAt (sendCell c x) () (NB x.lane))) ∗ owes (c : Thread nD τ) (owedL c xs) W' -∗ WP c (k ⟨⟩) Q)
          -∗ WP c (passP c x >>= k) Q) := by
  unfold atHand arrived passP
  rcases hy : pred x with _ | y
  · dsimp only
    iintro ⟨#HI, #HL, ⟨Hp, Hs⟩, HO⟩ Hk
    iapply (send_step wsh ssh K c x (owedL c xs) W) $$ [Hp Hs HO]
    · isplitr; · iexact HI
      isplitl [Hp]; · iexact Hp
      isplitl [Hs]; · iexact Hs
      iexact HO
    iintro ⟨Hc, HO⟩
    iapply Hk $$ %W
    isplitl [Hc]
    · isplitr; · iempintro
      iexact Hc
    iexact HO
  · dsimp only
    obtain ⟨e1, e2, e3⟩ := chIn_pred hy c
    iintro ⟨#HI, #HL, ⟨Hp, Hs⟩, HO⟩ Hk
    rw [show ((recvP c y >>= fun _ => sendP c x) >>= k : KProg F α) = recvP c y >>= fun _ => sendP c x >>= k from Prog.bind_assoc _ _ _]
    iapply (recv_step wsh ssh K c y (owedL c (x :: xs)) W) $$ [Hp HO]
    · isplitr; · iexact HI
      isplitl [Hp]; · iexact Hp
      isplitl [HO]; · iexact HO
      iapply (mayWait_owedL c (.dma (sR y)) (x :: xs) (2 + y.hop) (le_of_eq (lv_recv c y)) (fun z hz => by have := hx z hz; omega)); iexact HL
    iintro ⟨Hz, Hp, HO⟩
    iapply (send_step wsh ssh K c x (owedL c xs) (insert (.dma (sR y), ()) W)) $$ [Hp Hs HO]
    · isplitr; · iexact HI
      isplitl [Hp]
      · iapply (Entails.of_eq (show recvPay wsh ssh c y = pc wsh ssh c (chOut c x) x.lane (shr x) from by unfold recvPay; rw [e1, e2, shr_pass hy])); iexact Hp
      isplitl [Hs]; · iexact Hs
      iexact HO
    iintro ⟨Hc, HO⟩
    iapply Hk $$ %_
    isplitl [Hz Hc]
    · isplitl [Hz] <;> iassumption
    iexact HO

/-! ## The lists -/

theorem pass_list (c : Dev nD) : ∀ (xs : List Xf) (h : xs.Pairwise fun x z => x.hop ≤ z.hop) (W : Waits sig Unit) (k : KProg F PUnit) {Q : PUnit → sProp 𝕄},
    iprop(invs wsh ssh K ∗ levAts L lv ∗ bigSepL xs (fun x => iprop(atHand wsh ssh c x ∗ sendIn c x)) ∗ owes (c : Thread nD τ) (owedL c xs) W)
      ⊢ iprop((∀ W', (bigSepL xs (fun x => iprop(arrived c x ∗ cred (tallyAt (sendCell c x) () (NB x.lane)))) ∗ owes (c : Thread nD τ) 0 W') -∗ WP c k Q)
          -∗ WP c (seqP (passP c) k xs) Q)
  | [], _, W, k, Q => by
    unfold seqP owedL
    iintro ⟨-, -, -, HO⟩ Hk
    iapply Hk $$ %W
    isplitr; · iempintro
    iexact HO
  | x :: xs, h, W, k, Q => by
    obtain ⟨h1, h2⟩ := List.pairwise_cons.mp h
    unfold seqP
    rw [bigSepL_cons', bigSepL_cons']
    iintro ⟨#HI, #HL, ⟨Hx, Hxs⟩, HO⟩ Hk
    iapply (pass_step wsh ssh K c x xs (fun z hz => by rcases List.mem_cons.mp hz with rfl | hz; exacts [le_rfl, h1 z hz]) W) $$ [Hx HO]
    · isplitr; · iexact HI
      isplitr; · iexact HL
      isplitl [Hx]; · iexact Hx
      iexact HO
    iintro %W' ⟨Hx, HO⟩
    iapply (pass_list c xs h2 W' k) $$ [Hxs HO]
    · isplitr; · iexact HI
      isplitr; · iexact HL
      isplitl [Hxs]; · iexact Hxs
      iexact HO
    iintro %W'' ⟨Hxs, HO⟩
    iapply Hk $$ %W''
    isplitl [Hx Hxs]
    · isplitl [Hx] <;> iassumption
    iexact HO

theorem recv_list (c : Dev nD) : ∀ (xs : List Xf) (W : Waits sig Unit) (k : KProg F PUnit) {Q : PUnit → sProp 𝕄},
    iprop(invs wsh ssh K ∗ bigSepL xs (fun x => iprop(cred (tallyAt (recvCell c x) () (NB x.lane)) ∗ atPos ER (recvCell c x) 0 ∅ 0)) ∗ owes (c : Thread nD τ) 0 W)
      ⊢ iprop((∀ W', (bigSepL xs (fun x => iprop(semVal (recvCell c x) 0 ∗ recvPay wsh ssh c x)) ∗ owes (c : Thread nD τ) 0 W') -∗ WP c k Q)
          -∗ WP c (seqP (recvP c) k xs) Q)
  | [], W, k, Q => by
    unfold seqP
    iintro ⟨-, -, HO⟩ Hk
    iapply Hk $$ %W
    isplitr; · iempintro
    iexact HO
  | x :: xs, W, k, Q => by
    unfold seqP
    rw [bigSepL_cons', bigSepL_cons']
    iintro ⟨#HI, ⟨Hx, Hxs⟩, HO⟩ Hk
    iapply (recv_step wsh ssh K c x 0 W) $$ [Hx HO]
    · isplitr; · iexact HI
      isplitl [Hx]; · iexact Hx
      isplitl [HO]; · iexact HO
      rw [MayWait_zero]; iempintro
    iintro ⟨Hz, Hp, HO⟩
    iapply (recv_list c xs (insert (.dma (sR x), ()) W) k) $$ [Hxs HO]
    · isplitr; · iexact HI
      isplitl [Hxs]; · iexact Hxs
      iexact HO
    iintro %W'' ⟨Hxs, HO⟩
    iapply Hk $$ %W''
    isplitl [Hz Hp Hxs]
    · isplitl [Hz Hp]
      · isplitl [Hz] <;> iassumption
      iexact Hxs
    iexact HO

theorem done_list (c : Dev nD) : ∀ (xs : List Xf) (W : Waits sig Unit) (k : KProg F PUnit) {Q : PUnit → sProp 𝕄},
    iprop(invs wsh ssh K ∗ bigSepL xs (fun x => iprop(cred (tallyAt (sendCell c x) () (NB x.lane)) ∗ atPos ER (sendCell c x) 0 ∅ 0)) ∗ owes (c : Thread nD τ) 0 W)
      ⊢ iprop((∀ W', (bigSepL xs (fun x => iprop(semVal (sendCell c x) 0 ∗ sendPay wsh ssh c x)) ∗ owes (c : Thread nD τ) 0 W') -∗ WP c k Q)
          -∗ WP c (seqP (doneP c) k xs) Q)
  | [], W, k, Q => by
    unfold seqP
    iintro ⟨-, -, HO⟩ Hk
    iapply Hk $$ %W
    isplitr; · iempintro
    iexact HO
  | x :: xs, W, k, Q => by
    unfold seqP
    rw [bigSepL_cons', bigSepL_cons']
    iintro ⟨#HI, ⟨Hx, Hxs⟩, HO⟩ Hk
    iapply (done_step wsh ssh K c x W) $$ [Hx HO]
    · isplitr; · iexact HI
      isplitl [Hx]; · iexact Hx
      iexact HO
    iintro ⟨Hz, Hp, HO⟩
    iapply (done_list c xs (insert (.dma (sS x), ()) W) k) $$ [Hxs HO]
    · isplitr; · iexact HI
      isplitl [Hxs]; · iexact Hxs
      iexact HO
    iintro %W'' ⟨Hxs, HO⟩
    iapply Hk $$ %W''
    isplitl [Hz Hp Hxs]
    · isplitl [Hz Hp]
      · isplitl [Hz] <;> iassumption
      iexact Hxs
    iexact HO

theorem sends_sorted : sends.Pairwise fun x z => x.hop ≤ z.hop := by decide

end Cert.AllGather
-- ==== Proof.Pieces.lean ====
/-
  Taking the two gathered buffers apart into the pieces the transfers move, and putting them together again.
-/
module

public import proofs.«01_k».proof.Proof.Steps
public import Idealize.ShloMosaic.Lib.Pipeline.TalkSched

@[expose] public section

set_option maxRecDepth 16384

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists and families -/

section Lists
variable {M : Type} [URA M]

/-- What belongs to a transfer's source: at the first hop `A` of the transfer, later `R` of the transfer before it. -/
def byPred (A R : Xf → sProp M) (x : Xf) : sProp M := match pred x with
  | none => A x
  | some y => R y

def before (x : Xf) : Xf ⊕ Xf := match pred x with
  | none => .inl x
  | some y => .inr y

theorem byPred_eq (A R : Xf → sProp M) (x : Xf) : byPred A R x = Sum.elim A R (before x) := by
  unfold byPred before; rcases pred x with _ | y <;> rfl

theorem before_perm : (sends.map before ++ arrivals.map Sum.inr).Perm ((hop 0).map Sum.inl ++ sends.map Sum.inr) := by decide
theorem before_nodup : (sends.map before ++ arrivals.map Sum.inr).Nodup := by decide

/-- Every arrival is passed on or waited for at the end. -/
theorem byPred_all (A R : Xf → sProp M) :
    iprop(bigSepL sends (byPred A R) ∗ bigSepL arrivals R) = iprop(bigSepL (hop 0) A ∗ bigSepL sends R) := by
  have h := TalkSites.bigSepL_perm before_perm before_nodup (Sum.elim A R)
  rw [bigSepL_append, bigSepL_append, bigSepL_map, bigSepL_map, bigSepL_map, bigSepL_map] at h
  rw [show byPred A R = fun x => Sum.elim A R (before x) from funext (byPred_eq A R)]
  exact h

theorem all_sends (R : Xf → sProp M) : bigSep Finset.univ R = bigSepL sends R :=
  bigSep_univ_eq_bigSepL sends (Finset.ext fun x => by simp [mem_sends x]) sends_nodup R

def rowLanes : List Lane := [.w 0, .w 1, .w 2, .w 3]
def lanes : List Lane := rowLanes ++ [.s]

theorem all_lanes (R : Lane → sProp M) : bigSep Finset.univ R = bigSepL lanes R :=
  bigSep_univ_eq_bigSepL lanes (by decide) (by decide) R

theorem lanes_split (R : Lane → sProp M) : bigSep Finset.univ R = iprop((bigSep Finset.univ fun i : Fin 4 => R (.w i)) ∗ R .s) := by
  rw [all_lanes]
  unfold lanes
  rw [bigSepL_append, bigSepL_singleton, bigSep_univ_eq_bigSepL [(0 : Fin 4), 1, 2, 3] (by decide) (by decide) (fun i => R (.w i))]
  rfl

theorem hop_perm : (hop 0).Perm (lanes.map (Xf.fwd 0) ++ lanes.map (Xf.bwd 0)) := by decide

theorem sepL_sep (l : List Lane) (h : l.Nodup) (A B : Lane → sProp M) :
    bigSepL l (fun i => iprop(A i ∗ B i)) = iprop(bigSepL l A ∗ bigSepL l B) := by
  rw [← bigSep_eq_bigSepL_of_eq l rfl h, ← bigSep_eq_bigSepL_of_eq l rfl h, ← bigSep_eq_bigSepL_of_eq l rfl h, bigSep_sep']

end Lists

theorem sendsL_sep {M : Type} [URA M] (l : List Xf) (h : l.Nodup) (A B : Xf → sProp M) :
    bigSepL l (fun i => iprop(A i ∗ B i)) = iprop(bigSepL l A ∗ bigSepL l B) := by
  rw [← bigSep_eq_bigSepL_of_eq l rfl h, ← bigSep_eq_bigSepL_of_eq l rfl h, ← bigSep_eq_bigSepL_of_eq l rfl h, bigSep_sep']

/-! ## Pieces -/

/-- The piece `(k, l)` on device `c` of the contents `fa`, `fb` of the two gathered buffers. -/
def piece (c : Dev nD) (fa : Buf (Elt F) (aLoc c)) (fb : Buf (Elt F) (bLoc c)) (q : PosShare TreeShare) (p : Dev nD × Lane) : sProp 𝕄 :=
  match p.2 with
  | .w i => aLoc c ↦[setW p.1 i]{q} fa
  | .s => bLoc c ↦[setS p.1]{q} fb

section Pieces
variable (c : Dev nD) (fa : Buf (Elt F) (aLoc c)) (fb : Buf (Elt F) (bLoc c)) (q : PosShare TreeShare)

omit [FloatOps F] in
theorem setW_disjoint (p p' : Dev nD × Fin 4) (h : p ≠ p') : Disjoint (setW p.1 p.2) (setW p'.1 p'.2) := by
  rw [Finset.disjoint_left]
  intro j h1 h2
  rw [mem_setW] at h1 h2
  have := p.2.isLt; have := p'.2.isLt
  exact h (Prod.ext (Fin.ext (by omega)) (Fin.ext (by omega)))
omit [FloatOps F] in
theorem setW_cover : (Finset.univ.biUnion fun p : Dev nD × Fin 4 => setW p.1 p.2) = (Finset.univ : Finset S8192x512.Idx) := by
  refine Finset.eq_univ_iff_forall.mpr fun j => Finset.mem_biUnion.mpr ?_
  have hj : (j 0).val < 8192 := (j 0).isLt
  refine ⟨(⟨(j 0).val / 512, by show _ < 16; omega⟩, ⟨(j 0).val / 128 % 4, by omega⟩), Finset.mem_univ _, mem_setW.mpr ?_⟩
  show (j 0).val / 128 = 4 * ((j 0).val / 512) + (j 0).val / 128 % 4
  omega
omit [FloatOps F] in
theorem setS_disjoint (k k' : Dev nD) (h : k ≠ k') : Disjoint (setS k) (setS k') := by
  rw [Finset.disjoint_left]
  intro j h1 h2
  rw [mem_setS] at h1 h2
  exact h (Fin.ext (by omega))
omit [FloatOps F] in
theorem setS_cover : (Finset.univ.biUnion fun k : Dev nD => setS k) = (Finset.univ : Finset S16x512.Idx) := by
  refine Finset.eq_univ_iff_forall.mpr fun j => Finset.mem_biUnion.mpr ?_
  exact ⟨⟨(j 0).val, (j 0).isLt⟩, Finset.mem_univ _, mem_setS.mpr rfl⟩

omit [FloatOps F] in
/-- The two buffers are their pieces. -/
theorem buffers_eq : (iprop((aLoc c ↦{q} fa) ∗ (bLoc c ↦{q} fb)) : sProp 𝕄) = bigSep Finset.univ (piece c fa fb q) := by
  have ha : (aLoc c ↦{q} fa : sProp 𝕄) = bigSep Finset.univ fun p : Dev nD × Fin 4 => aLoc c ↦[setW p.1 p.2]{q} fa := by
    refine Eq.trans ?_ (pointsTo_biUnion (ℓ := aLoc c) Finset.univ (fun p : Dev nD × Fin 4 => setW p.1 p.2) fun p _ p' _ h => setW_disjoint p p' h)
    exact congrArg (fun I => (aLoc c ↦[I]{q} fa : sProp 𝕄)) setW_cover.symm
  have hb : (bLoc c ↦{q} fb : sProp 𝕄) = bigSep Finset.univ fun k : Dev nD => bLoc c ↦[setS k]{q} fb := by
    refine Eq.trans ?_ (pointsTo_biUnion (ℓ := bLoc c) Finset.univ setS fun p _ p' _ h => setS_disjoint p p' h)
    exact congrArg (fun I => (bLoc c ↦[I]{q} fb : sProp 𝕄)) setS_cover.symm
  rw [ha, hb, bigSep_univ_prod, bigSep_univ_prod, ← bigSep_sep']
  exact bigSep_congr fun k _ => (lanes_split fun l => piece c fa fb q (k, l)).symm

omit [FloatOps F] in
/-- The device's own pieces and one for every transfer it receives. -/
theorem buffers_slots : (iprop((aLoc c ↦{q} fa) ∗ (bLoc c ↦{q} fb)) : sProp 𝕄)
    = iprop((bigSep Finset.univ fun l : Lane => piece c fa fb q (c, l)) ∗ bigSep Finset.univ fun x : Xf => piece c fa fb q (chIn c x, x.lane)) := by
  rw [buffers_eq, bigSep_univ_equiv (slots c), BI.bigSep_univ_sum]
  rfl

omit [FloatOps F] in
theorem own_set : (rOwnW c).set = Finset.univ.biUnion fun i : Fin 4 => setW c i := by
  ext j
  rw [Rect.mem_set_unit, Finset.mem_biUnion, off1_eq]
  have hj1 : (j 1).val < 512 := (j 1).isLt
  constructor
  · intro h
    have h0 := h 0
    have h0' : 512 * c.val ≤ (j 0).val ∧ (j 0).val < 512 * c.val + 512 := h0
    refine ⟨⟨(j 0).val / 128 - 4 * c.val, by omega⟩, Finset.mem_univ _, mem_setW.mpr ?_⟩
    show (j 0).val / 128 = 4 * c.val + ((j 0).val / 128 - 4 * c.val)
    omega
  · rintro ⟨i, -, hi⟩ a
    rw [mem_setW] at hi
    have := i.isLt
    fin_cases a
    · show 512 * c.val ≤ (j 0).val ∧ (j 0).val < 512 * c.val + 512
      omega
    · show 0 ≤ (j 1).val ∧ (j 1).val < 0 + 512
      omega
omit [FloatOps F] in
theorem own_setS : (rOwnS c).set = setS c := row_set _ _ _ (off2_eq c)

omit [FloatOps F] in
/-- The own pieces are the own chunk's rows and the own row of scales. -/
theorem own_eq : (bigSep Finset.univ fun l : Lane => piece c fa fb q (c, l) : sProp 𝕄)
    = iprop((aLoc c ↦[(rOwnW c).set]{q} fa) ∗ (bLoc c ↦[(rOwnS c).set]{q} fb)) := by
  rw [lanes_split, own_set, own_setS]
  have h := pointsTo_biUnion (ℓ := aLoc c) (q := q) (f := fa) (Ix := Unit) (Name := ℕ) (U := UU) (Lvl := ℕ) Finset.univ (fun i : Fin 4 => setW c i)
    (fun i _ i' _ h => setW_disjoint (c, i) (c, i') fun e => h (congrArg Prod.snd e))
  exact congrArg (fun X => (iprop(X ∗ (bLoc c ↦[setS c]{q} fb)) : sProp 𝕄)) h.symm

end Pieces

variable (wsh : Dev nD → (cc0_stg1_0 : Ref sig .tc).ty.Contents (Elt F)) (ssh : Dev nD → (cc0_stg2_0 : Ref sig .tc).ty.Contents (Elt F))

omit [FloatOps F] in
theorem pc_eq (c k : Dev nD) (l : Lane) (q) : pc wsh ssh c k l q = piece c (WALL wsh) (SALL ssh) q (k, l) := by
  unfold pc piece; rcases l with _ | _ <;> rfl
omit [FloatOps F] in
theorem hole_of (c : Dev nD) (fa : Buf (Elt F) (aLoc c)) (fb : Buf (Elt F) (bLoc c)) (p : Dev nD × Lane) :
    piece c fa fb fullShare p ⊢ (hole c p.1 p.2 : sProp 𝕄) := by
  obtain ⟨k, l⟩ := p
  rcases l with i | _
  · unfold piece hole; dsimp only; iintro H; iexists fa; iexact H
  · unfold piece hole; dsimp only; iintro H; iexists fb; iexact H

omit [FloatOps F] in
theorem pc_halves (c k : Dev nD) (l : Lane) :
    pc wsh ssh c k l fullShare = iprop(pc wsh ssh c k l fullShare.left ∗ pc wsh ssh c k l fullShare.right) := by
  unfold pc
  rcases l with i | _
  · have h := pointsTo_share (ℓ := aLoc c) (I := setW k i) (f := WALL wsh) (Ix := Unit) (Name := ℕ) (U := UU) (Lvl := ℕ) (PosShare.mem_left_op_right fullShare)
    exact h.1.antisymm h.2
  · have h := pointsTo_share (ℓ := bLoc c) (I := setS k) (f := SALL ssh) (Ix := Unit) (Name := ℕ) (U := UU) (Lvl := ℕ) (PosShare.mem_left_op_right fullShare)
    exact h.1.antisymm h.2

omit [FloatOps F] in
/-- The own pieces go both ways: half of each to either side. -/
theorem own_halves (c : Dev nD) :
    bigSepL (hop 0) (fun x => pc wsh ssh c (chOut c x) x.lane (shr x)) = bigSep Finset.univ fun l : Lane => pc wsh ssh c c l fullShare := by
  rw [TalkSites.bigSepL_perm hop_perm (by decide), bigSepL_append, bigSepL_map, bigSepL_map, all_lanes,
    show (fun l : Lane => pc wsh ssh c c l fullShare) = fun l => iprop(pc wsh ssh c c l fullShare.left ∗ pc wsh ssh c c l fullShare.right) from
      funext fun l => pc_halves wsh ssh c c l, sepL_sep lanes (by decide)]
  have h1 : ∀ l, chOut c (.fwd 0 l) = c := fun l => chOut_zero rfl c
  have h2 : ∀ l, chOut c (.bwd 0 l) = c := fun l => chOut_zero rfl c
  simp only [h1, h2]
  rfl

end Cert.AllGather
-- ==== Proof.Body.lean ====
/-
  The body on one device, from what the launch gives it to what it leaves.
-/
module

public import proofs.«01_k».proof.Proof.Pieces
public import Idealize.ShloMosaic.Lib.Pipeline.ValueKit.Geometry
public import Idealize.ShloMosaic.Lib.Pipeline.Value

@[expose] public section

set_option maxRecDepth 16384

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

/-- The activations, and the chunk `k` of the gathered weights and scales, as the multiplication reads them. -/
def rowsOf (A : (cc0_stg4_0 : Ref sig .tc).ty.Contents (Elt F)) (k : Fin 16) : Vec F S256x512 .i8 := aM.view.readAt (Elt F) (rW k).toLoadRect A
def scalesOf (B : (cc0_stg5_0 : Ref sig .tc).ty.Contents (Elt F)) (k : Fin 16) : Vec F S1x256 .f32 := bM.view.readAt (Elt F) (rS k).toLoadRect B

/-- The queries: columns `256 k …` from chunk `k`. -/
def QOUT (X : (cc0_stg0_0 : Ref sig .tc).ty.Contents (Elt F)) (A : (cc0_stg4_0 : Ref sig .tc).ty.Contents (Elt F))
    (B : (cc0_stg5_0 : Ref sig .tc).ty.Contents (Elt F)) : (cc0_stg3_0 : Ref sig .tc).ty.Contents (Elt F) := fun (j : S256x4096.Idx) =>
  let k : Fin 16 := ⟨(j 1).val / 256, by have : (j 1).val < 4096 := (j 1).isLt; omega⟩
  qBlk X (rowsOf A k) (scalesOf B k) (fun a => match a with
    | ⟨0, _⟩ => (⟨(j 0).val, (j 0).isLt⟩ : Fin 256)
    | ⟨1, _⟩ => (⟨(j 1).val % 256, Nat.mod_lt _ (by decide)⟩ : Fin 256))

/-- One block written. -/
def putQ (X : (cc0_stg0_0 : Ref sig .tc).ty.Contents (Elt F)) (A : (cc0_stg4_0 : Ref sig .tc).ty.Contents (Elt F))
    (B : (cc0_stg5_0 : Ref sig .tc).ty.Contents (Elt F)) (f : (cc0_stg3_0 : Ref sig .tc).ty.Contents (Elt F)) (k : Fin 16) :
    (cc0_stg3_0 : Ref sig .tc).ty.Contents (Elt F) :=
  (qM.access (rQ k)).write (Elt F) f (qBlk X (rowsOf A k) (scalesOf B k)) Finset.univ

section Contents
variable (X : (cc0_stg0_0 : Ref sig .tc).ty.Contents (Elt F)) (A : (cc0_stg4_0 : Ref sig .tc).ty.Contents (Elt F))
  (B : (cc0_stg5_0 : Ref sig .tc).ty.Contents (Elt F)) (f : (cc0_stg3_0 : Ref sig .tc).ty.Contents (Elt F))

theorem putQ_in (k : Fin 16) (j : S256x4096.Idx) (h : (j 1).val / 256 = k.val) : putQ X A B f k j = QOUT X A B j := by
  have h1 : (j 1).val < 4096 := (j 1).isLt
  have hk : (⟨(j 1).val / 256, by omega⟩ : Fin 16) = k := Fin.ext h
  let y : S256x256.Idx := fun a => match a with
    | ⟨0, _⟩ => (⟨(j 0).val, (j 0).isLt⟩ : Fin 256)
    | ⟨1, _⟩ => (⟨(j 1).val % 256, Nat.mod_lt _ (by decide)⟩ : Fin 256)
  have hj : (qM.access (rQ k)).emb y = j := funext fun a => Fin.ext (by
    rw [show (((qM.access (rQ k)).emb y a : Fin _) : Nat) = (![0, 256 * k.val] : Fin 2 → Nat) a + (y a).val from
      ValueKit.view_emb_slice_whole_unit_val cc0_stg3_0 _ _ _ y a]
    fin_cases a
    · show 0 + (j 0).val = (j 0).val; omega
    · show 256 * k.val + (j 1).val % 256 = (j 1).val; omega)
  unfold putQ QOUT
  conv_lhs => rw [← hj]
  rw [View.write_emb_of_mem (h := Finset.mem_univ y)]
  dsimp only
  rw [hk]
  rfl

theorem putQ_out (k : Fin 16) (j : S256x4096.Idx) (h : (j 1).val / 256 ≠ k.val) : putQ X A B f k j = f j := by
  unfold putQ
  refine View.write_of_not_mem _ _ _ fun hm => h ?_
  have hm' : j ∈ (rQ k).set := by
    rw [← View.set_slice_whole cc0_stg3_0 (rQ k)]; exact hm
  rw [Rect.mem_set_unit] at hm'
  have h1 : 256 * k.val ≤ (j 1).val ∧ (j 1).val < 256 * k.val + 256 := hm' 1
  omega

theorem putQ_list (ks : List (Fin 16)) : ∀ (f : (cc0_stg3_0 : Ref sig .tc).ty.Contents (Elt F)) (j : S256x4096.Idx),
    ((∃ k ∈ ks, (j 1).val / 256 = k.val) ∨ f j = QOUT X A B j) → ks.foldl (putQ X A B) f j = QOUT X A B j := by
  induction ks with
  | nil => exact fun f j h => h.elim (fun ⟨k, hk, _⟩ => absurd hk List.not_mem_nil) id
  | cons k ks ih =>
    intro f j h
    refine ih _ j ?_
    by_cases hk : (j 1).val / 256 = k.val
    · exact Or.inr (putQ_in X A B f k j hk)
    · rcases h with ⟨k', hk', e⟩ | h
      · rcases List.mem_cons.mp hk' with rfl | hm
        · exact absurd e hk
        · exact Or.inl ⟨k', hm, e⟩
      · exact Or.inr ((putQ_out X A B f k j hk).trans h)

def chunks : List (Fin 16) := [0, 1, 2, 3, 4, 5, 6, 7, 8, 9, 10, 11, 12, 13, 14, 15]

theorem putQ_all : chunks.foldl (putQ X A B) f = QOUT X A B := funext fun j =>
  putQ_list X A B chunks f j (Or.inl ⟨⟨((j : S256x4096.Idx) 1).val / 256, by have : ((j : S256x4096.Idx) 1).val < 4096 := ((j : S256x4096.Idx) 1).isLt; omega⟩, by
    have : ∀ k : Fin 16, k ∈ chunks := by decide
    exact this _, rfl⟩)

end Contents

theorem hz : (![0, 0] : Fin 2 → Nat) = fun _ => 0 := funext fun a => by fin_cases a <;> rfl

variable (wsh : Dev nD → (cc0_stg1_0 : Ref sig .tc).ty.Contents (Elt F)) (ssh : Dev nD → (cc0_stg2_0 : Ref sig .tc).ty.Contents (Elt F))

theorem pay1_eq (w : Vec F S512x512 .i8) : k0_pay1 w = w := by unfold k0_pay1; exact shapeCast_self _ _
theorem pay2_eq (w : Vec F S1x512 .f32) : k0_pay2 w = w := by unfold k0_pay2; exact shapeCast_self _ _

/-- The own rows, once stored, hold what they must. -/
theorem own_stored (c : Dev nD) (fa : Buf (Elt F) (aLoc c)) : ∀ j ∈ (rOwnW c).set,
    (aM.access (rOwnW c)).write (Elt F) fa (k0_pay1 (wsh c)) Finset.univ j = WALL wsh j := fun (j : S8192x512.Idx) hj => by
  rw [Rect.mem_set_unit, off1_eq] at hj
  have h0 : 512 * c.val ≤ (j 0).val ∧ (j 0).val < 512 * c.val + 512 := hj 0
  have h1 : (j 1).val < 512 := (j 1).isLt
  have hc : (⟨(j 0).val / 512, by have : (j 0).val < 8192 := (j 0).isLt; show _ < 16; omega⟩ : Dev nD) = c := Fin.ext (by show (j 0).val / 512 = c.val; omega)
  let y : S512x512.Idx := fun a => match a with
    | ⟨0, _⟩ => (⟨(j 0).val % 512, Nat.mod_lt _ (by decide)⟩ : Fin 512)
    | ⟨1, _⟩ => (⟨(j 1).val, (j 1).isLt⟩ : Fin 512)
  have hy : (aM.access (rOwnW c)).emb y = j := funext fun a => Fin.ext (by
    rw [show (((aM.access (rOwnW c)).emb y a : Fin _) : Nat) = k0_off1 c a + (y a).val from
      ValueKit.view_emb_slice_whole_unit_val cc0_stg4_0 _ _ _ y a, off1_eq]
    fin_cases a
    · show 512 * c.val + (j 0).val % 512 = (j 0).val; omega
    · show 0 + (j 1).val = (j 1).val; omega)
  conv_lhs => rw [← hy]
  rw [View.write_emb_of_mem (h := Finset.mem_univ y), pay1_eq]
  unfold WALL
  rw [hc]
  rfl

theorem own_storedS (c : Dev nD) (fb : Buf (Elt F) (bLoc c)) : ∀ j ∈ (rOwnS c).set,
    (bM.access (rOwnS c)).write (Elt F) fb (k0_pay2 (ssh c)) Finset.univ j = SALL ssh j := fun (j : S16x512.Idx) hj => by
  rw [Rect.mem_set_unit, off2_eq] at hj
  have h0 : c.val ≤ (j 0).val ∧ (j 0).val < c.val + 1 := hj 0
  have hc : (⟨(j 0).val, by have : (j 0).val < 16 := (j 0).isLt; exact this⟩ : Dev nD) = c := Fin.ext (by show (j 0).val = c.val; omega)
  let y : S1x512.Idx := fun a => match a with
    | ⟨0, _⟩ => (⟨0, by decide⟩ : Fin 1)
    | ⟨1, _⟩ => (⟨(j 1).val, (j 1).isLt⟩ : Fin 512)
  have hy : (bM.access (rOwnS c)).emb y = j := funext fun a => Fin.ext (by
    rw [show (((bM.access (rOwnS c)).emb y a : Fin _) : Nat) = k0_off2 c a + (y a).val from
      ValueKit.view_emb_slice_whole_unit_val cc0_stg5_0 _ _ _ y a, off2_eq]
    fin_cases a
    · show c.val + 0 = (j 0).val; omega
    · show 0 + (j 1).val = (j 1).val; omega)
  conv_lhs => rw [← hy]
  rw [View.write_emb_of_mem (h := Finset.mem_univ y), pay2_eq]
  unfold SALL
  rw [hc]
  rfl

theorem ownW_access (c : Dev nD) : (aM.access (rOwnW c)).setOn Finset.univ ⊆ (rOwnW c).set := le_of_eq (View.set_slice_whole cc0_stg4_0 (rOwnW c))
theorem ownW_view (c : Dev nD) : aM.view.setOn (rOwnW c).toLoadRect.set ⊆ (rOwnW c).set := by
  have h := ownW_access c; rw [View.setOn_univ, View.set_slice] at h; exact h
theorem ownS_access (c : Dev nD) : (bM.access (rOwnS c)).setOn Finset.univ ⊆ (rOwnS c).set := le_of_eq (View.set_slice_whole cc0_stg5_0 (rOwnS c))
theorem ownS_view (c : Dev nD) : bM.view.setOn (rOwnS c).toLoadRect.set ⊆ (rOwnS c).set := by
  have h := ownS_access c; rw [View.setOn_univ, View.set_slice] at h; exact h

/-! ## What the body starts from -/

section Body
variable (K : Dev nD × Ck → ℕ)

/-- Device `c`'s own cells have begun, and every barrier. -/
def begun (c : Dev nD) : sProp 𝕄 :=
  iprop((bigSep Finset.univ fun p : Bool × Xf => reached ER (kcell (c, some p)) 0) ∗ bigSep Finset.univ fun d : Dev nD => reached ER (barCell d) 0)
omit [FloatOps F] in
instance begun_persistent (c : Dev nD) : BI.Persistent (begun (F := F) c) := by unfold begun; infer_instance
omit [FloatOps F] in
theorem begun_own (c : Dev nD) (p : Bool × Xf) : (begun c : sProp 𝕄) ⊢ reached ER (kcell (c, some p)) 0 := by
  unfold begun
  iintro ⟨H, -⟩
  iapply (show (bigSep Finset.univ fun p : Bool × Xf => reached ER (kcell (c, some p)) 0) ⊢ (reached ER (kcell (c, some p)) 0 : sProp 𝕄)
    from bigSep_elim (Finset.mem_univ p))
  iexact H
omit [FloatOps F] in
theorem begun_bar (c d : Dev nD) : (begun c : sProp 𝕄) ⊢ reached ER (barCell d) 0 := by
  unfold begun
  iintro ⟨-, H⟩
  iapply (show (bigSep Finset.univ fun d : Dev nD => reached ER (barCell d) 0) ⊢ (reached ER (barCell d) 0 : sProp 𝕄)
    from bigSep_elim (Finset.mem_univ d))
  iexact H

/-- What device `c` owns of the protocol's state at the start. -/
def ghost (c : Dev nD) : sProp 𝕄 :=
  iprop(atPos ER (barCell c) 0 ∅ 0 ∗ dutyTok ER (barCell (prv c)) 0 true ∗ dutyTok ER (barCell (nxt c)) 0 false
    ∗ (bigSep Finset.univ fun x : Xf => iprop(dutyTok ER (sendCell c x) 0 false ∗ dutyTok ER (recvCell (tgt x c) x) 0 false))
    ∗ (bigSep Finset.univ fun x : Xf => atPos ER (sendCell c x) 0 ∅ 0) ∗ (bigSep Finset.univ fun x : Xf => atPos ER (recvCell c x) 0 ∅ 0))
/-- Its credits: for its barrier's two units and for what lands. -/
def creds (c : Dev nD) : sProp 𝕄 :=
  iprop(cred (tallyAt (barCell c) () 2) ∗ bigSep Finset.univ fun x : Xf => cred (tallyAt (recvCell c x) () (NB x.lane)))
/-- All its cells, done with. -/
def sems0 (c : Dev nD) : sProp 𝕄 :=
  iprop(semVal (barCell c) 0 ∗ (bigSep Finset.univ fun x : Xf => semVal (sendCell c x) 0) ∗ bigSep Finset.univ fun x : Xf => semVal (recvCell c x) 0)

omit [FloatOps F] in
theorem barPay_prv (c : Dev nD) : barPay (F := F) (prv c) true = bigSep (dir true) fun x => iprop(hole c (chIn c x) x.lane ∗ reached ER (recvCell c x) 0) := by
  unfold barPay
  refine bigSep_congr fun x hx => ?_
  have hx' : x.isFwd = true := (Finset.mem_filter.mp hx).2
  have ht : tgt x (prv c) = c := by unfold tgt; rw [if_pos hx', nxt_prv]
  rw [← chIn_tgt x (prv c), ht]
omit [FloatOps F] in
theorem barPay_nxt (c : Dev nD) : barPay (F := F) (nxt c) false = bigSep (dir false) fun x => iprop(hole c (chIn c x) x.lane ∗ reached ER (recvCell c x) 0) := by
  unfold barPay
  refine bigSep_congr fun x hx => ?_
  have hx' : x.isFwd = false := (Finset.mem_filter.mp hx).2
  have ht : tgt x (nxt c) = c := by unfold tgt; rw [if_neg (by rw [hx']; decide), prv_nxt]
  rw [← chIn_tgt x (nxt c), ht]

omit [FloatOps F] in
/-- The landing places, given away: the forward ones to the left neighbour, the backward ones to the right. -/
theorem pay_bars (c : Dev nD) (fa : Buf (Elt F) (aLoc c)) (fb : Buf (Elt F) (bLoc c)) :
    iprop(begun c ∗ bigSep Finset.univ fun x : Xf => piece c fa fb fullShare (chIn c x, x.lane)) ⊢ (iprop(barPay (prv c) true ∗ barPay (nxt c) false) : sProp 𝕄) := by
  rw [barPay_prv, barPay_nxt]
  refine (bigSep_with_persistent (Ψ := fun x : Xf => iprop(hole c (chIn c x) x.lane ∗ reached ER (recvCell c x) 0)) fun x _ => ?_).trans ?_
  · iintro ⟨#HB, H⟩
    isplitl [H]; · iapply (hole_of c fa fb (chIn c x, x.lane)); iexact H
    iapply (begun_own c (true, x)); iexact HB
  · rw [BI.bigSep_filter_split (s := Finset.univ) (fun x : Xf => x.isFwd = true)]
    unfold dir
    simp only [Bool.not_eq_true]
    exact .rfl

omit [FloatOps F] in
/-- What the sends need, from the neighbours' landing places and the tokens. -/
theorem sendIn_all (c : Dev nD) :
    iprop(begun c ∗ (bigSep Finset.univ fun x => iprop(hole (F := F) (tgt x c) (chOut c x) x.lane ∗ reached ER (recvCell (tgt x c) x) 0))
      ∗ (bigSep Finset.univ fun x : Xf => iprop(dutyTok ER (sendCell c x) 0 false ∗ dutyTok ER (recvCell (tgt x c) x) 0 false)))
      ⊢ (bigSepL sends (sendIn c) : sProp 𝕄) := by
  rw [← all_sends, ← bigSep_sep']
  refine bigSep_with_persistent fun x _ => ?_
  unfold sendIn
  iintro ⟨#HB, ⟨H1, H2⟩, H3, H4⟩
  isplitl [H1 H2]
  · isplitl [H1] <;> iassumption
  isplitl [H3]; · iexact H3
  isplitr; · iapply (begun_own c (false, x)); iexact HB
  iexact H4

/-- Everything at hand before the passing on begins, from the own pieces, credits and positions. -/
theorem atHand_all (c : Dev nD) :
    iprop((bigSep Finset.univ fun l : Lane => pc wsh ssh c c l fullShare)
      ∗ (bigSep Finset.univ fun x : Xf => cred (tallyAt (recvCell c x) () (NB x.lane))) ∗ (bigSep Finset.univ fun x : Xf => atPos ER (recvCell c x) 0 ∅ 0))
      ⊢ (iprop(bigSepL sends (atHand wsh ssh c)
        ∗ bigSepL arrivals fun x => iprop(cred (tallyAt (recvCell c x) () (NB x.lane)) ∗ atPos ER (recvCell c x) 0 ∅ 0)) : sProp 𝕄) := by
  rw [show atHand wsh ssh c = byPred (fun x => pc wsh ssh c (chOut c x) x.lane (shr x))
      (fun x => iprop(cred (tallyAt (recvCell c x) () (NB x.lane)) ∗ atPos ER (recvCell c x) 0 ∅ 0)) from rfl,
    byPred_all, own_halves, ← all_sends, ← bigSep_sep']

omit [FloatOps F] in
theorem sendPay_eq (c : Dev nD) : sendPay wsh ssh c = byPred (fun x => pc wsh ssh c (chOut c x) x.lane (shr x)) (recvPay wsh ssh c) := by
  funext x
  unfold byPred
  rcases hy : pred x with _ | y
  · rfl
  · obtain ⟨e1, e2, -⟩ := chIn_pred hy c
    unfold sendPay recvPay
    dsimp only
    rw [e1, e2, shr_pass hy]

/-- And everything back in the end: the two gathered buffers whole. -/
theorem gathered (c : Dev nD) :
    iprop(bigSepL sends (sendPay wsh ssh c) ∗ bigSepL arrivals (recvPay wsh ssh c)) ⊢ (iprop((aLoc c ↦{fullShare} WALL wsh) ∗ (bLoc c ↦{fullShare} SALL ssh)) : sProp 𝕄) := by
  rw [sendPay_eq, byPred_all, own_halves, ← all_sends, buffers_slots]
  simp only [recvPay, pc_eq]
  exact .rfl

theorem closed_all (c : Dev nD) :
    iprop(bigSepL sends (arrived c) ∗ bigSepL arrivals fun x => semVal (recvCell c x) 0) ⊢ (bigSep Finset.univ fun x : Xf => semVal (recvCell c x) 0 : sProp 𝕄) := by
  rw [show arrived (F := F) c = byPred (fun _ => iprop(emp)) (fun x => semVal (recvCell c x) 0) from rfl, byPred_all, ← all_sends]
  iintro ⟨-, H⟩
  iexact H

/-! ## The multiplications -/

theorem mul_list (c : Dev nD) (X : (cc0_stg0_0 : Ref sig .tc).ty.Contents (Elt F)) : ∀ (ks : List (Fin 16)) (f : (cc0_stg3_0 : Ref sig .tc).ty.Contents (Elt F))
    {k : KProg F PUnit} {Q : PUnit → sProp 𝕄},
    iprop((aLoc c ↦{fullShare} WALL wsh) ∗ (bLoc c ↦{fullShare} SALL ssh) ∗ ((c : Thread nD τ).loc cc0_stg3_0 ↦{fullShare} f))
      ⊢ iprop((((aLoc c ↦{fullShare} WALL wsh) ∗ (bLoc c ↦{fullShare} SALL ssh)
            ∗ ((c : Thread nD τ).loc cc0_stg3_0 ↦{fullShare} ks.foldl (putQ X (WALL wsh) (SALL ssh)) f)) -∗ WP c k Q)
          -∗ WP c (seqP (mulP X) k ks) Q)
  | [], f, k, Q => by
    unfold seqP
    iintro ⟨HA, HB, HQ⟩ Hk
    iapply Hk
    isplitl [HA]; · iexact HA
    isplitl [HB]; · iexact HB
    iexact HQ
  | i :: is, f, k, Q => by
    unfold seqP mulP
    simp only [Prog.lift, Prog.bind_op, Prog.bind_ret]
    iintro ⟨HA, HB, HQ⟩ Hk
    iapply (wp_load 𝒱₀ (c : Thread nD τ) none Set.univ (m := aM) (Finset.subset_univ _)) $$ HA; iintro HA
    iapply (wp_load 𝒱₀ (c : Thread nD τ) none Set.univ (m := bM) (Finset.subset_univ _)) $$ HB; iintro HB
    iapply (wp_load 𝒱₀ (c : Thread nD τ) none Set.univ (m := qM) (Finset.subset_univ _)) $$ HQ; iintro HQ
    iapply (wp_store 𝒱₀ (c : Thread nD τ) none Set.univ (m := qM) (r := rQ i) (Mk := Finset.univ) (Finset.subset_univ _)) $$ HQ; iintro HQ
    iapply (mul_list c X is (putQ X (WALL wsh) (SALL ssh) f i)) $$ [HA HB HQ]
    · isplitl [HA]; · iexact HA
      isplitl [HB]; · iexact HB
      iexact HQ
    iexact Hk

/-! ## The body -/

/-- What the body leaves on device `c`. -/
def leaves (c : Dev nD) (X : (cc0_stg0_0 : Ref sig .tc).ty.Contents (Elt F)) : sProp 𝕄 :=
  iprop(sems0 c ∗ ((c : Thread nD τ).loc cc0_stg0_0 ↦{fullShare} X) ∗ ((c : Thread nD τ).loc cc0_stg1_0 ↦{fullShare} wsh c)
    ∗ ((c : Thread nD τ).loc cc0_stg2_0 ↦{fullShare} ssh c) ∗ ((c : Thread nD τ).loc cc0_stg3_0 ↦{fullShare} QOUT X (WALL wsh) (SALL ssh))
    ∗ (aLoc c ↦{fullShare} WALL wsh) ∗ (bLoc c ↦{fullShare} SALL ssh))

theorem body_run (c : Dev nD) (X : (cc0_stg0_0 : Ref sig .tc).ty.Contents (Elt F)) (fq : (cc0_stg3_0 : Ref sig .tc).ty.Contents (Elt F))
    (fa : Buf (Elt F) (aLoc c)) (fb : Buf (Elt F) (bLoc c)) (W : Waits sig Unit) (Q : PUnit → sProp 𝕄) :
    iprop(invs wsh ssh K ∗ begun c ∗ levAts L lv ∗ ghost c ∗ creds c ∗ owes (c : Thread nD τ) (O₀ c) W
      ∗ ((c : Thread nD τ).loc cc0_stg0_0 ↦{fullShare} X) ∗ ((c : Thread nD τ).loc cc0_stg1_0 ↦{fullShare} wsh c)
      ∗ ((c : Thread nD τ).loc cc0_stg2_0 ↦{fullShare} ssh c) ∗ ((c : Thread nD τ).loc cc0_stg3_0 ↦{fullShare} fq)
      ∗ (aLoc c ↦{fullShare} fa) ∗ (bLoc c ↦{fullShare} fb))
      ⊢ iprop((∀ W', (leaves wsh ssh c X ∗ owes (c : Thread nD τ) 0 W') -∗ Q ⟨⟩) -∗ WP c (bodyP c) Q) := by
  unfold bodyP ghost creds
  simp only [semSignalWord, semWaitWord, Prog.lift, Prog.bind_op, Prog.bind_ret, left_eq, right_eq]
  iintro ⟨#HI, #HB, #HL, ⟨HatB, HtP, HtN, Htok, HatS, HatR⟩, ⟨HcB, HcR⟩, HO, Hx, Hw, Hs, Hq, Ha, Hb⟩ Hk
  -- the landing places, given away with the barrier units
  ihave Hsl := (Entails.of_eq (buffers_slots c fa fb fullShare)) $$ [Ha Hb]
  · isplitl [Ha] <;> iassumption
  icases Hsl with ⟨Hown, Hin⟩
  ihave Hbars := (pay_bars c fa fb) $$ [Hin]
  · isplitr; · iexact HB
    iexact Hin
  icases Hbars with ⟨Hp, Hn⟩
  iapply (Rounds.wp_signal 𝒱₀ ER (sched wsh ssh) (c : Thread nD τ) none (dst := (prv c : Thread nD τ)) (κ := K (prv c, none))
      (d := true) (by rw [duties_bar]; exact Finset.mem_univ _) ((amount_bar wsh ssh (prv c) true).trans (by decide)) () (O₁ c) rfl)
    $$ [HO HtP Hp]
  · isplitr; · iapply (inv_at wsh ssh K (prv c, none)); iexact HI
    isplitl [HO]; · iexact HO
    isplitl [HtP]; · iexact HtP
    isplitl [Hp]; · iapply (Entails.of_eq (payload_bar wsh ssh (prv c) true).symm); iexact Hp
    iapply (begun_bar c (prv c)); iexact HB
  iintro HO
  unfold O₁
  iapply (Rounds.wp_signal 𝒱₀ ER (sched wsh ssh) (c : Thread nD τ) none (dst := (nxt c : Thread nD τ)) (κ := K (nxt c, none))
      (d := false) (by rw [duties_bar]; exact Finset.mem_univ _) ((amount_bar wsh ssh (nxt c) false).trans (by decide)) () (owedL c sends) rfl)
    $$ [HO HtN Hn]
  · isplitr; · iapply (inv_at wsh ssh K (nxt c, none)); iexact HI
    isplitl [HO]; · iexact HO
    isplitl [HtN]; · iexact HtN
    isplitl [Hn]; · iapply (Entails.of_eq (payload_bar wsh ssh (nxt c) false).symm); iexact Hn
    iapply (begun_bar c (nxt c)); iexact HB
  iintro HO
  -- both neighbours' landing places
  iapply (Rounds.wp_wait_rest_token 𝒱₀ ER (sched wsh ssh) (c : Thread nD τ) none (κ := K (c, none))
      (wpE_semWait_eq 𝒱₀ (c : Thread nD τ) none Set.univ) (Set.mem_univ _) () (O := owedL c sends) (W := W) (R := 0) (m := 0) (T := ∅)
      (by rw [expect_bar]; decide)) $$ [HcB HO HatB]
  · isplitr; · iapply (inv_at wsh ssh K (c, none)); iexact HI
    isplitl [HcB]; · iexact HcB
    isplitl [HO]; · iexact HO
    isplitr
    · iapply (mayWait_owedL c (.reg barS) sends 1 (le_of_eq (lv_bar c)) (fun x _ => by omega)); iexact HL
    iexact HatB
  iintro ⟨HO, HatB, -, Hpay⟩
  ihave Hland := (Entails.of_eq (rest_bar wsh ssh c)) $$ Hpay
  imod (close_at wsh ssh K (c, none)) $$ [HatB] with HzB
  · isplitr; · iexact HI
    iexact HatB
  ihave Hsin := (sendIn_all c) $$ [Hland Htok]
  · isplitr; · iexact HB
    isplitl [Hland] <;> iassumption
  -- the own chunk and the own row
  ihave Hown := (Entails.of_eq (own_eq c fa fb fullShare)) $$ Hown
  icases Hown with ⟨Ha, Hb⟩
  iapply (wp_load 𝒱₀ (c : Thread nD τ) none Set.univ (m := wM) (Finset.subset_univ _)) $$ Hw; iintro Hw
  rw [show (wM : Memref sig .tc .vmem S512x512 .i8).view.readAt (Elt F) rAllW.toLoadRect (wsh c) = wsh c from Memref.readAt_unit_zero (Elt F) cc0_stg1_0 hz _ _]
  iapply (wp_load 𝒱₀ (c : Thread nD τ) none Set.univ (m := aM) (r := (rOwnW c).toLoadRect) (S := (rOwnW c).set) (f := fa) (ownW_view c)) $$ Ha; iintro Ha
  iapply (wp_store 𝒱₀ (c : Thread nD τ) none Set.univ (m := aM) (r := rOwnW c) (Mk := Finset.univ) (S := (rOwnW c).set) (f := fa) (ownW_access c)) $$ Ha; iintro Ha
  ihave Ha := (Entails.of_eq (pointsTo_congr (ℓ := aLoc c) (q := fullShare) (own_stored wsh c fa))) $$ Ha
  iapply (wp_load 𝒱₀ (c : Thread nD τ) none Set.univ (m := cM) (Finset.subset_univ _)) $$ Hs; iintro Hs
  rw [show (cM : Memref sig .tc .vmem S1x512 .f32).view.readAt (Elt F) rAllS.toLoadRect (ssh c) = ssh c from Memref.readAt_unit_zero (Elt F) cc0_stg2_0 hz _ _]
  iapply (wp_load 𝒱₀ (c : Thread nD τ) none Set.univ (m := bM) (r := (rOwnS c).toLoadRect) (S := (rOwnS c).set) (f := fb) (ownS_view c)) $$ Hb; iintro Hb
  iapply (wp_store 𝒱₀ (c : Thread nD τ) none Set.univ (m := bM) (r := rOwnS c) (Mk := Finset.univ) (S := (rOwnS c).set) (f := fb) (ownS_access c)) $$ Hb; iintro Hb
  ihave Hb := (Entails.of_eq (pointsTo_congr (ℓ := bLoc c) (q := fullShare) (own_storedS ssh c fb))) $$ Hb
  ihave Hown := (Entails.of_eq (own_eq c (WALL wsh) (SALL ssh) fullShare).symm) $$ [Ha Hb]
  · isplitl [Ha] <;> iassumption
  ihave Hhand := (atHand_all wsh ssh c) $$ [Hown HcR HatR]
  · isplitl [Hown]; · simp only [pc_eq]; iexact Hown
    isplitl [HcR] <;> iassumption
  icases Hhand with ⟨Hhand, Harr⟩
  -- pass on, receive the last, wait for the own sends
  iapply (pass_list wsh ssh K c sends sends_sorted _ _) $$ [Hhand Hsin HO]
  · isplitr; · iexact HI
    isplitr; · iexact HL
    isplitl [Hhand Hsin]
    · rw [sendsL_sep sends sends_nodup]
      isplitl [Hhand] <;> iassumption
    iexact HO
  iintro %W1 ⟨Hsent, HO⟩
  ihave Hsent := (Entails.of_eq (sendsL_sep sends sends_nodup (arrived c) fun x => cred (tallyAt (sendCell c x) () (NB x.lane)))) $$ Hsent
  icases Hsent with ⟨Hz1, HcS⟩
  iapply (recv_list wsh ssh K c arrivals W1 _) $$ [Harr HO]
  · isplitr; · iexact HI
    isplitl [Harr] <;> iassumption
  iintro %W2 ⟨Hgot, HO⟩
  ihave Hgot := (Entails.of_eq (sendsL_sep arrivals (by decide) (fun x => semVal (recvCell c x) 0) (recvPay wsh ssh c))) $$ Hgot
  icases Hgot with ⟨Hz2, Hgot⟩
  iapply (done_list wsh ssh K c sends W2 _) $$ [HcS HatS HO]
  · isplitr; · iexact HI
    isplitl [HcS HatS]
    · rw [sendsL_sep sends sends_nodup, ← all_sends fun x => atPos ER (sendCell c x) 0 ∅ 0]
      isplitl [HcS] <;> iassumption
    iexact HO
  iintro %W3 ⟨Hdone, HO⟩
  ihave Hdone := (Entails.of_eq (sendsL_sep sends sends_nodup (fun x => semVal (sendCell c x) 0) (sendPay wsh ssh c))) $$ Hdone
  icases Hdone with ⟨HzS, Hback⟩
  ihave Hall := (gathered wsh ssh c) $$ [Hback Hgot]
  · isplitl [Hback] <;> iassumption
  icases Hall with ⟨Ha, Hb⟩
  ihave HzR := (closed_all c) $$ [Hz1 Hz2]
  · isplitl [Hz1] <;> iassumption
  -- the multiplications
  iapply (wp_load 𝒱₀ (c : Thread nD τ) none Set.univ (m := xM) (Finset.subset_univ _)) $$ Hx; iintro Hx
  rw [show (xM : Memref sig .tc .vmem S256x512 .bf16).view.readAt (Elt F) rAllX.toLoadRect X = X from Memref.readAt_unit_zero (Elt F) cc0_stg0_0 hz _ _]
  iapply (mul_list wsh ssh c X chunks fq) $$ [Ha Hb Hq]
  · isplitl [Ha]; · iexact Ha
    isplitl [Hb] <;> iassumption
  rw [putQ_all]
  iintro ⟨Ha, Hb, Hq⟩
  rw [Prog.pure_eq_ret]; unfold WP; rw [wp_ret]; imodintro
  iapply Hk $$ %W3
  isplitr [HO]
  · unfold leaves sems0
    isplitl [HzB HzS HzR]
    · isplitl [HzB]; · iexact HzB
      isplitl [HzS]
      · rw [all_sends]; iexact HzS
      iexact HzR
    isplitl [Hx]; · iexact Hx
    isplitl [Hw]; · iexact Hw
    isplitl [Hs]; · iexact Hs
    isplitl [Hq]; · iexact Hq
    isplitl [Ha] <;> iassumption
  iexact HO

end Body

end Cert.AllGather
-- ==== Proof.Attend.lean ====
/-
  The second call: the attention of one grid point, as the printed body leaves it.
-/
module

public import proofs.«01_k».proof.Proof.Steps
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.Pipeline.ValueKit
public import Idealize.ShloMosaic.Lib.Tactic
public import Idealize.ShloMosaic.Lib.VecWindow
public import Idealize.ShloMosaic.Lib.WritesUnit

@[expose] public section

set_option maxRecDepth 16384

noncomputable section

namespace Cert.AllGather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The attention of one block of heads, of its queries, keys and values. -/
def ATT (q k v : Vec F S32x128x64 .bf16) : Vec F S32x128x64 .bf16 := k1_pay1 k1_pay2 k1_pay3 k1_pay4 k1_pay5 q k v

omit [FloatOps F] in
/-- What a store of a whole block leaves is what it stored. -/
theorem read_stored {S : Shape} {e : EltTy} {sp : Space} (v : View sig .tc sp S e) (f : v.ty.Contents (Elt F)) {off : Fin S.rank → ℕ}
    (inb : ∀ a, off a + S.size a ≤ S.size a) (w : S.Idx → Elt F e) :
    v.read (Elt F) (v.writes (Elt F) f [⟨Rect.unit off S.size inb, w⟩]) = w := by
  funext y
  have h := View.read_writes_cons_unit_of_mem (v := v) (f := f) inb w [] y y rfl (fun a => by have := inb a; omega)
  exact h

theorem attend_run (c : Dev nD) (i : grid1.Coords) (M1 M2 M3 M4 : Memref sig .tc .vmem S32x128x64 .bf16) (h1 : M1.IsWhole) (h2 : M2.IsWhole)
    (h3 : M3.IsWhole) (h4 : M4.IsWhole) (X1 X2 X3 X4 : S32x128x64.Idx → Elt F .bf16) (Q : PUnit → sProp 𝕄) :
    iprop(owns (Ix := Unit) (Name := ℕ) (U := UU) (Lvl := ℕ) (c : Thread nD τ) M1 fullShare X1
        ∗ owns (c : Thread nD τ) M2 fullShare X2 ∗ owns (c : Thread nD τ) M3 fullShare X3
        ∗ owns (c : Thread nD τ) M4 fullShare X4)
      ⊢ iprop((iprop(owns (c : Thread nD τ) M1 fullShare X1
        ∗ owns (c : Thread nD τ) M2 fullShare X2 ∗ owns (c : Thread nD τ) M3 fullShare X3
        ∗ owns (c : Thread nD τ) M4 fullShare (ATT X1 X2 X3)) -∗ Q ⟨⟩)
        -∗ wp frame (wpE (defs₀ (F := F)) 𝒱₀ c none) Set.univ (cc1__attn_body i M1 h1 M2 h2 M3 h3 M4 h4) Q) := by
  rw [cc1__attn_body_eq_skeleton]
  unfold owns
  iintro ⟨⟨%f1, %e1, H1⟩, ⟨%f2, %e2, H2⟩, ⟨%f3, %e3, H3⟩, ⟨%f4, %e4, H4⟩⟩ Hk
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap
  · iexact H4
  ipureintro
  rw [read_stored, View.readAt_full, View.readAt_full, View.readAt_full, e1, e2, e3]
  rfl

end Cert.AllGather

end
-- ==== Proof.OutProj.lean ====
/-
  The third call: the projection of a device's contexts by the gathered output weights, as the printed body leaves it.
-/
module

public import proofs.«01_k».proof.Proof.Attend
public import proofs.«01_k».proof.Proof.Body
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.Pipeline.ValueKit
public import Idealize.ShloMosaic.Lib.Tactic
public import Idealize.ShloMosaic.Lib.VecWindow
public import Idealize.ShloMosaic.Lib.WritesUnit

@[expose] public section

set_option maxRecDepth 16384

noncomputable section

namespace Cert.AllGather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Chunk `k` of the projection: the contexts of its heads, scaled, times its rows of the gathered weights. -/
def outTerm (C : Vec F S256x4096 .bf16) (A : Vec F S8192x512 .i8) (B : Vec F S16x512 .f32) (k : Fin 16) : FVec F S256x512 .f32 :=
  matmul dot_S256x256_S256x512_S256x512_1_0_0_1_n_n none
    (truncf .bf16 (mulf
      (extf .f32 (shapeCast S256x256
        (VecWindow.window C ![0, 256 * k.val] S256x256.size (fun a => by have := k.isLt; fin_cases a <;> simp [Shape.size] <;> omega))
        shapeCasts_S256x256_S256x256) bitsLt_bf16_f32)
      (broadcastTo S256x256 (shapeCast S1x256
        (VecWindow.window B ![k.val, 256] S1x256.size (fun a => by have := k.isLt; fin_cases a <;> simp [Shape.size] <;> omega))
        shapeCasts_S1x256_S1x256) broadcasts_S1x256_S256x256)) bitsLt_bf16_f32)
    (sitofp .bf16 (shapeCast S256x512
      (VecWindow.window A ![512 * k.val + 256, 0] S256x512.size (fun a => by have := k.isLt; fin_cases a <;> simp [Shape.size] <;> omega))
      shapeCasts_S256x512_S256x512 : IVec S256x512 8))
    (constant S256x512 .f32 0x00000000#32)

/-- The projection: the chunks' products added up in their order. -/
def OUT (C : Vec F S256x4096 .bf16) (A : Vec F S8192x512 .i8) (B : Vec F S16x512 .f32) : Vec F S256x512 .f32 :=
  chunks.foldl (fun acc k => addf acc (outTerm C A B k)) (broadcast S256x512 (Scalar.ofBits .f32 0x00000000#32 : F .f32))

theorem project_run (c : Dev nD) (M1 : Memref sig .tc .vmem S256x4096 .bf16) (M2 : Memref sig .tc .vmem S8192x512 .i8)
    (M3 : Memref sig .tc .vmem S16x512 .f32) (M4 : Memref sig .tc .vmem S256x512 .f32) (h1 : M1.IsWhole) (h2 : M2.IsWhole)
    (h3 : M3.IsWhole) (h4 : M4.IsWhole) (X1 : S256x4096.Idx → Elt F .bf16) (X2 : S8192x512.Idx → Elt F .i8) (X3 : S16x512.Idx → Elt F .f32)
    (X4 : S256x512.Idx → Elt F .f32) (Q : PUnit → sProp 𝕄) :
    iprop(owns (Ix := Unit) (Name := ℕ) (U := UU) (Lvl := ℕ) (c : Thread nD τ) M1 fullShare X1
        ∗ owns (c : Thread nD τ) M2 fullShare X2 ∗ owns (c : Thread nD τ) M3 fullShare X3
        ∗ owns (c : Thread nD τ) M4 fullShare X4)
      ⊢ iprop((iprop(owns (c : Thread nD τ) M1 fullShare X1
        ∗ owns (c : Thread nD τ) M2 fullShare X2 ∗ owns (c : Thread nD τ) M3 fullShare X3
        ∗ owns (c : Thread nD τ) M4 fullShare (OUT X1 X2 X3)) -∗ Q ⟨⟩)
        -∗ wp frame (wpE (defs₀ (F := F)) 𝒱₀ c none) Set.univ (cc2__out_body M1 h1 M2 h2 M3 h3 M4 h4) Q) := by
  rw [cc2__out_body_eq_skeleton]
  unfold cc2__out_body_skel
  rw [k2_part1_eq_skeleton, k2_part2_eq_skeleton, k2_part3_eq_skeleton, k2_part4_eq_skeleton, k2_part5_eq_skeleton]
  unfold owns
  iintro ⟨⟨%f1, %e1, H1⟩, ⟨%f2, %e2, H2⟩, ⟨%f3, %e3, H3⟩, ⟨%f4, %e4, H4⟩⟩ Hk
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap
  · iexact H4
  ipureintro
  rw [read_stored]
  subst e1 e2 e3
  rfl

end Cert.AllGather

end
-- ==== Proof.Calls.lean ====
/-
  The three calls as the run takes them: what each reads and leaves, from the contents of the buffers it is entered with, and
  that its printed body does so.
-/
module

public import proofs.«01_k».proof.Proof.Body
public import proofs.«01_k».proof.Proof.Attend
public import proofs.«01_k».proof.Proof.OutProj
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.Pipeline.ValueKit
public import Idealize.ShloMosaic.Lib.Tactic
public import Idealize.ShloMosaic.Lib.VecWindow
public import Idealize.ShloMosaic.Lib.WritesUnit

@[expose] public section

set_option maxRecDepth 16384

noncomputable section

namespace Cert.AllGather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The contents of the buffers of every device. -/
abbrev Held (F : FTy → Type) [FloatOps F] : Type := Dev nD → Valuation τ sig (Elt F)
variable (V : Held F)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The gathering call -/

/-- Device `c`'s activations, weights and scales, as fetched. -/
def xs (c : Dev nD) : (cc0_stg0_0 : Ref sig .tc).ty.Contents (Elt F) := (win0_0.blk (0 : Fin 1)).view.read (Elt F) (V c main_v5)
def ws (c : Dev nD) : (cc0_stg1_0 : Ref sig .tc).ty.Contents (Elt F) := (win0_1.blk (0 : Fin 1)).view.read (Elt F) (V c main_v33)
def ss (c : Dev nD) : (cc0_stg2_0 : Ref sig .tc).ty.Contents (Elt F) := (win0_2.blk (0 : Fin 1)).view.read (Elt F) (V c main_v36)

/-- What a device's body starts from. -/
def start (c : Dev nD) : sProp 𝕄 :=
  iprop((∃ K, invs (ws V) (ss V) K ∗ begun c ∗ ghost c) ∗ creds c ∗ levAts L lv)

/-- What a call keeps beside its blocks: the buffers no window stages and the generator's register. -/
def besides {gr W : ℕ} (spec : Fin W → Pipeline.WinSpec sig gr) (c : Dev nD) : sProp 𝕄 :=
  iprop(Pipeline.scopedRest spec c ∗ ∃ r, prngReg c r)

def dat0 (c : Dev nD) : Dat τ (Elt F) Unit ℕ UU ℕ cfg0 c where
  A w := V c (Proc.devRef .tc (cfg0.win w).arr.view.ref)
  after w _ := match w with
    | ⟨0, _⟩ => xs V c
    | ⟨1, _⟩ => ws V c
    | ⟨2, _⟩ => ss V c
    | ⟨3, _⟩ => QOUT (xs V c) (WALL (ws V)) (SALL (ss V))
    | ⟨4, _⟩ => WALL (ws V)
    | ⟨5, _⟩ => SALL (ss V)
  Φ t := match t with
    | ⟨0, _⟩ => iprop(start V c ∗ besides spec0 c)
    | ⟨_ + 1, _⟩ => iprop(sems0 c ∗ besides spec0 c)
  q _ := fullShare
  owed t := match t with
    | ⟨0, _⟩ => O₀ c
    | ⟨_ + 1, _⟩ => 0

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start V c ∗ besides spec0 c) ∗ (dat0 V c).owesAt () t₀.castSucc
    ∗ (∃ d, stg c cc0_stg0_0 ((dat0 V c).before (0 : Fin 6) t₀ d))
    ∗ (∃ d, stg c cc0_stg1_0 ((dat0 V c).before (1 : Fin 6) t₀ d))
    ∗ (∃ d, stg c cc0_stg2_0 ((dat0 V c).before (2 : Fin 6) t₀ d))
    ∗ (∃ d, stg c cc0_stg3_0 ((dat0 V c).before (3 : Fin 6) t₀ d))
    ∗ (∃ d, stg c cc0_stg4_0 ((dat0 V c).before (4 : Fin 6) t₀ d))
    ∗ (∃ d, stg c cc0_stg5_0 ((dat0 V c).before (5 : Fin 6) t₀ d)))

def bodyPost (c : Dev nD) : sProp 𝕄 :=
  iprop((sems0 c ∗ besides spec0 c) ∗ (dat0 V c).owesAt () t₀.succ ∗ stg c cc0_stg0_0 (xs V c) ∗ stg c cc0_stg1_0 (ws V c)
    ∗ stg c cc0_stg2_0 (ss V c) ∗ stg c cc0_stg3_0 (QOUT (xs V c) (WALL (ws V)) (SALL (ss V)))
    ∗ stg c cc0_stg4_0 (WALL (ws V)) ∗ stg c cc0_stg5_0 (SALL (ss V)))

theorem before_0 (c : Dev nD) (d) : (dat0 V c).before (0 : Fin 6) t₀ d = xs V c := by
  unfold Dat.before; rw [if_pos (fetch0_0 t₀)]; rfl
theorem before_1 (c : Dev nD) (d) : (dat0 V c).before (1 : Fin 6) t₀ d = ws V c := by
  unfold Dat.before; rw [if_pos (fetch0_1 t₀)]; rfl
theorem before_2 (c : Dev nD) (d) : (dat0 V c).before (2 : Fin 6) t₀ d = ss V c := by
  unfold Dat.before; rw [if_pos (fetch0_2 t₀)]; rfl

set_option maxRecDepth 200000 in
/-- The pipeline's obligation for the body of device `c`. -/
theorem body_obligation (c : Dev nD) : BodyObligation (dat0 (F := F) V c) (defs₀ (F := F)) 𝒱₀ () Set.univ := fun t => by
  rw [fin_N t]
  rw [bigSep_W, bigSep_W]
  simp only [owns_whole_eq]
  show bodyPre V c ⊢ wp frame (wpE (defs₀ (F := F)) 𝒱₀ c none) Set.univ
    (cc0__ag_body xM (Memref.isWhole_whole _) wM (Memref.isWhole_whole _) cM (Memref.isWhole_whole _) qM (Memref.isWhole_whole _)
      aM (Memref.isWhole_whole _) bM (Memref.isWhole_whole _) cc0_scratch0 cc0_scratch1 cc0_scratch2 cc0_scratch3 cc0_scratch4
      cc0_scratch5 cc0_scratch6 cc0_scratch7) (fun _ => bodyPost V c)
  rw [body_eq]
  simp only [wp_deviceId]
  unfold bodyPre start Dat.owesAt Pipeline.owesWithin
  simp only [before_0, before_1, before_2]
  iintro ⟨⟨⟨⟨%K, #HI, #HB, Hg⟩, Hc, #HL⟩, Hbe⟩, ⟨%W, %hW, HO⟩, ⟨%d0, %f0, %e0, H0⟩, ⟨%d1, %f1, %e1, H1⟩, ⟨%d2, %f2, %e2, H2⟩,
    ⟨%d3, %f3, %e3, H3⟩, ⟨%d4, %f4, %e4, H4⟩, ⟨%d5, %f5, %e5, H5⟩⟩
  subst e0 e1 e2
  iapply (body_run (ws V) (ss V) K c (xs V c) f3 f4 f5 W (fun _ => bodyPost V c)) $$ [Hg Hc HO H0 H1 H2 H3 H4 H5]
  · isplitr; · iexact HI
    isplitr; · iexact HB
    isplitr; · iexact HL
    isplitl [Hg]; · iexact Hg
    isplitl [Hc]; · iexact Hc
    isplitl [HO]; · iexact HO
    isplitl [H0]; · iexact H0
    isplitl [H1]; · iexact H1
    isplitl [H2]; · iexact H2
    isplitl [H3]; · iexact H3
    isplitl [H4]; · iexact H4
    iexact H5
  iintro %W' ⟨Hl, HO⟩
  unfold leaves bodyPost Dat.owesAt Pipeline.owesWithin
  icases Hl with ⟨Hz, H0, H1, H2, H3, H4, H5⟩
  isplitl [Hz Hbe]; · isplitl [Hz] <;> iassumption
  isplitl [HO]
  · iexists W'
    isplitr; · ipureintro; exact fun _ _ => Or.inl trivial
    iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr; · ipureintro; rfl
  iexact H5

/-! ## The attention -/

/-- The block of the queries, the keys and the values at a grid point. -/
def qAt (c : Dev nD) (t : Fin grid1.N) : Vec F S32x128x64 .bf16 := (win1_0.blk t).view.read (Elt F) (V c main_v53)
def kAt (c : Dev nD) (t : Fin grid1.N) : Vec F S32x128x64 .bf16 := (win1_1.blk t).view.read (Elt F) (V c main_v43)
def vAt (c : Dev nD) (t : Fin grid1.N) : Vec F S32x128x64 .bf16 := (win1_2.blk t).view.read (Elt F) (V c main_v49)

def dat1 (c : Dev nD) : Dat τ (Elt F) Unit ℕ UU ℕ cfg1 c where
  A w := V c (Proc.devRef .tc (cfg1.win w).arr.view.ref)
  after w t := match w with
    | ⟨0, _⟩ => qAt V c t
    | ⟨1, _⟩ => kAt V c t
    | ⟨2, _⟩ => vAt V c t
    | ⟨3, _⟩ => ATT (qAt V c t) (kAt V c t) (vAt V c t)
  Φ _ := besides spec1 c
  q _ := fullShare
  owed _ := 0

theorem before1_0 (c : Dev nD) (t) (d) : (dat1 V c).before (0 : Fin 4) t d = qAt V c t := by
  unfold Dat.before; rw [if_pos (fetch1_0 t)]; rfl
theorem before1_1 (c : Dev nD) (t) (d) : (dat1 V c).before (1 : Fin 4) t d = kAt V c t := by
  unfold Dat.before; rw [if_pos (fetch1_1 t)]; rfl
theorem before1_2 (c : Dev nD) (t) (d) : (dat1 V c).before (2 : Fin 4) t d = vAt V c t := by
  unfold Dat.before; rw [if_pos (fetch1_2 t)]; rfl

/-- The pipeline's obligation for the attention's body. -/
theorem attend_obligation (c : Dev nD) : BodyObligation (dat1 (F := F) V c) (defs₀ (F := F)) 𝒱₀ () Set.univ := fun t => by
  rw [bigSep_W1, bigSep_W1]
  show iprop(besides spec1 c ∗ (dat1 V c).owesAt () t.castSucc
      ∗ (∃ d, owns (c : Thread nD τ) (st1_0 t) fullShare ((dat1 V c).before (0 : Fin 4) t d))
      ∗ (∃ d, owns (c : Thread nD τ) (st1_1 t) fullShare ((dat1 V c).before (1 : Fin 4) t d))
      ∗ (∃ d, owns (c : Thread nD τ) (st1_2 t) fullShare ((dat1 V c).before (2 : Fin 4) t d))
      ∗ (∃ d, owns (c : Thread nD τ) (st1_3 t) fullShare ((dat1 V c).before (3 : Fin 4) t d)))
    ⊢ wp frame (wpE (defs₀ (F := F)) 𝒱₀ c none) Set.univ (bodyAt1 t)
      (fun _ => iprop(besides spec1 c ∗ (dat1 V c).owesAt () t.castSucc
        ∗ owns (c : Thread nD τ) (st1_0 t) fullShare (qAt V c t) ∗ owns (c : Thread nD τ) (st1_1 t) fullShare (kAt V c t)
        ∗ owns (c : Thread nD τ) (st1_2 t) fullShare (vAt V c t)
        ∗ owns (c : Thread nD τ) (st1_3 t) fullShare (ATT (qAt V c t) (kAt V c t) (vAt V c t))))
  simp only [before1_0, before1_1, before1_2]
  iintro ⟨Hb, HO, ⟨%d0, H0⟩, ⟨%d1, H1⟩, ⟨%d2, H2⟩, ⟨%d3, H3⟩⟩
  iapply (attend_run c (grid1.coords t) (st1_0 t) (st1_1 t) (st1_2 t) (st1_3 t) _ _ _ _ (qAt V c t) (kAt V c t) (vAt V c t)
    ((dat1 V c).before (3 : Fin 4) t d3) _) $$ [H0 H1 H2 H3]
  · isplitl [H0]; · iexact H0
    isplitl [H1]; · iexact H1
    isplitl [H2] <;> iassumption
  iintro H
  isplitl [Hb]; · iexact Hb
  isplitl [HO]; · iexact HO
  iexact H

/-! ## The projection of the contexts -/

/-- The contexts, the gathered weights and the gathered scales, as fetched. -/
def ctxIn (c : Dev nD) : Vec F S256x4096 .bf16 := (win2_0.blk (0 : Fin 1)).view.read (Elt F) (V c main_v57)
def wIn (c : Dev nD) : Vec F S8192x512 .i8 := (win2_1.blk (0 : Fin 1)).view.read (Elt F) (V c main_v50_1)
def sIn (c : Dev nD) : Vec F S16x512 .f32 := (win2_2.blk (0 : Fin 1)).view.read (Elt F) (V c main_v50_2)

def dat2 (c : Dev nD) : Dat τ (Elt F) Unit ℕ UU ℕ cfg2 c where
  A w := V c (Proc.devRef .tc (cfg2.win w).arr.view.ref)
  after w _ := match w with
    | ⟨0, _⟩ => ctxIn V c
    | ⟨1, _⟩ => wIn V c
    | ⟨2, _⟩ => sIn V c
    | ⟨3, _⟩ => OUT (ctxIn V c) (wIn V c) (sIn V c)
  Φ _ := besides spec2 c
  q _ := fullShare
  owed _ := 0

theorem before2_0 (c : Dev nD) (d) : (dat2 V c).before (0 : Fin 4) t2_0 d = ctxIn V c := by
  unfold Dat.before; rw [if_pos (fetch2_0 t2_0)]; rfl
theorem before2_1 (c : Dev nD) (d) : (dat2 V c).before (1 : Fin 4) t2_0 d = wIn V c := by
  unfold Dat.before; rw [if_pos (fetch2_1 t2_0)]; rfl
theorem before2_2 (c : Dev nD) (d) : (dat2 V c).before (2 : Fin 4) t2_0 d = sIn V c := by
  unfold Dat.before; rw [if_pos (fetch2_2 t2_0)]; rfl

/-- The pipeline's obligation for the projection's body. -/
theorem project_obligation (c : Dev nD) : BodyObligation (dat2 (F := F) V c) (defs₀ (F := F)) 𝒱₀ () Set.univ := fun t => by
  rw [fin_N2 t, bigSep_W2, bigSep_W2]
  show iprop(besides spec2 c ∗ (dat2 V c).owesAt () t2_0.castSucc
      ∗ (∃ d, owns (c : Thread nD τ) (st2_0 t2_0) fullShare ((dat2 V c).before (0 : Fin 4) t2_0 d))
      ∗ (∃ d, owns (c : Thread nD τ) (st2_1 t2_0) fullShare ((dat2 V c).before (1 : Fin 4) t2_0 d))
      ∗ (∃ d, owns (c : Thread nD τ) (st2_2 t2_0) fullShare ((dat2 V c).before (2 : Fin 4) t2_0 d))
      ∗ (∃ d, owns (c : Thread nD τ) (st2_3 t2_0) fullShare ((dat2 V c).before (3 : Fin 4) t2_0 d)))
    ⊢ wp frame (wpE (defs₀ (F := F)) 𝒱₀ c none) Set.univ (bodyAt2 t2_0)
      (fun _ => iprop(besides spec2 c ∗ (dat2 V c).owesAt () t2_0.castSucc
        ∗ owns (c : Thread nD τ) (st2_0 t2_0) fullShare (ctxIn V c) ∗ owns (c : Thread nD τ) (st2_1 t2_0) fullShare (wIn V c)
        ∗ owns (c : Thread nD τ) (st2_2 t2_0) fullShare (sIn V c)
        ∗ owns (c : Thread nD τ) (st2_3 t2_0) fullShare (OUT (ctxIn V c) (wIn V c) (sIn V c))))
  simp only [before2_0, before2_1, before2_2]
  iintro ⟨Hb, HO, ⟨%d0, H0⟩, ⟨%d1, H1⟩, ⟨%d2, H2⟩, ⟨%d3, H3⟩⟩
  iapply (project_run c (st2_0 t2_0) (st2_1 t2_0) (st2_2 t2_0) (st2_3 t2_0) _ _ _ _ (ctxIn V c) (wIn V c) (sIn V c)
    ((dat2 V c).before (3 : Fin 4) t2_0 d3) _) $$ [H0 H1 H2 H3]
  · isplitl [H0]; · iexact H0
    isplitl [H1]; · iexact H1
    isplitl [H2] <;> iassumption
  iintro H
  isplitl [Hb]; · iexact Hb
  isplitl [HO]; · iexact HO
  iexact H

end Cert.AllGather

end
-- ==== Proof.Deal.lean ====
/-
  What the launch deals each device for the gathering call: the names of the cells, the tokens to pay with, the right to open
  its own cells when the call begins, and the credits.
-/
module

public import proofs.«01_k».proof.Proof.Calls
public import Idealize.ShloMosaic.Lib.Rounds.Family
public import Idealize.ShloMosaic.Lib.Pipeline.Launch
public import Idealize.ShloMosaic.Lib.Pipeline.Kit
public import Idealize.ShloMosaic.Lib.Pipeline.ValueKit
public import Idealize.ShloMosaic.Lib.Tactic
public import Idealize.ShloMosaic.Lib.VecWindow
public import Idealize.ShloMosaic.Lib.WritesUnit

@[expose] public section

set_option maxRecDepth 16384

noncomputable section

namespace Cert.AllGather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Held F)

/-! ## Sums over a device's semaphores -/

omit [FloatOps F] in
/-- A sum over a device's semaphores: its barrier, its source semaphores, its landing semaphores. -/
theorem bigSep_ck (Φ : Ck → sProp 𝕄) : bigSep Finset.univ Φ
    = iprop(Φ none ∗ (bigSep Finset.univ fun x => Φ (some (false, x))) ∗ bigSep Finset.univ fun x => Φ (some (true, x))) := by
  have h : (bigSep Finset.univ fun p : Bool × Xf => Φ (some p))
      = iprop((bigSep Finset.univ fun x => Φ (some (false, x))) ∗ bigSep Finset.univ fun x => Φ (some (true, x))) := by
    rw [bigSep_univ_prod fun p : Bool × Xf => Φ (some p)]
    exact bigSep_univ_eq_bigSepL [false, true] (by decide) (by decide) _
  rw [bigSep_univ_at Φ none, ← h, show Finset.univ.erase (none : Ck) = Finset.univ.map ⟨some, Option.some_injective _⟩ from by
    ext k; rcases k with _ | p <;> simp, bigSep_map]
  rfl

/-- The kernel's own semaphores. -/
abbrev osem (p : Bool × Xf) : SemLoc sig := csem (some p)

theorem stage_role : ∀ (w : Fin 6) (s : Fin (cfg0.spec w).nbuf), role (.dma ((cfg0.spec w).sem s)) = none := by decide +kernel

theorem osem_isScoped (p : Bool × Xf) : (osem p).isScoped .tc = true := by
  have h : ∀ b : Bool, ∀ x ∈ sends, (osem (b, x)).isScoped .tc = true := by decide +kernel
  exact h p.1 p.2 (mem_sends _)

theorem ownSemFacts : Pipeline.OwnSemFacts cfg0.spec osem where
  isScoped := osem_isScoped
  inj _ _ h := Option.some.inj (csem_injective h)
  disj p w s h := by have := congrArg role h; rw [role_csem, stage_role w s] at this; cases this

def gatherCells : Finset (GSem nD τ sig) := Finset.univ.map ⟨kcell, kcell_injective⟩

/-- The duties of a device's cells: two of its barrier, one of every other. -/
abbrev Duty : Type := Bool ⊕ (Bool × Xf)
def dutyCk : Duty → Ck × Bool
  | .inl d => (none, d)
  | .inr p => (some p, false)
theorem dutyCk_injective : Function.Injective dutyCk := by
  rintro (d | p) (d' | p') h
  · exact congrArg Sum.inl (congrArg Prod.snd h)
  · exact absurd (congrArg Prod.fst h) (by simp [dutyCk])
  · exact absurd (congrArg Prod.fst h) (by simp [dutyCk])
  · exact congrArg Sum.inr (Option.some.inj (congrArg Prod.fst h))
def tokOf (cj : Dev nD × Duty) : GSem nD τ sig × ℕ × Bool := (kcell (cj.1, (dutyCk cj.2).1), 0, (dutyCk cj.2).2)
theorem tokOf_injective : Function.Injective tokOf := by
  rintro ⟨c, j⟩ ⟨c', j'⟩ h
  have h1 := kcell_injective (congrArg Prod.fst h)
  have h2 : (dutyCk j).2 = (dutyCk j').2 := congrArg (fun t => t.2.2) h
  have h3 : j = j' := dutyCk_injective (Prod.ext (congrArg Prod.snd h1) h2)
  have h4 : c = c' := congrArg Prod.fst h1
  rw [h3, h4]
def gatherToks : Finset (GSem nD τ sig × ℕ × Bool) := Finset.univ.map ⟨tokOf, tokOf_injective⟩

/-- The barrier's cells, live from the launch, and the devices' own, opened when the call begins. -/
def barCells : Finset (GSem nD τ sig) := Finset.univ.map ⟨barCell, fun _ _ h => congrArg (fun g : GSem nD τ sig => g.1.1) h⟩
def ownCell (p : Dev nD × (Bool × Xf)) : GSem nD τ sig := kcell (p.1, some p.2)
theorem ownCell_injective : Function.Injective ownCell := fun p p' h => by
  have h := kcell_injective h
  exact Prod.ext (congrArg (fun q : Dev nD × Ck => q.1) h) (Option.some.inj (congrArg (fun q : Dev nD × Ck => q.2) h))
def ownCells : Finset (GSem nD τ sig) := Finset.univ.map ⟨ownCell, ownCell_injective⟩
theorem cells_disjoint : Disjoint barCells ownCells := by
  rw [Finset.disjoint_left]
  rintro g h1 h2
  obtain ⟨c, -, rfl⟩ := Finset.mem_map.mp h1
  obtain ⟨p, -, h⟩ := Finset.mem_map.mp h2
  have := kcell_injective (a₁ := (p.1, some p.2)) (a₂ := (c, none)) h
  cases congrArg Prod.snd this
theorem cells_union : barCells ∪ ownCells = gatherCells := by
  ext g
  simp only [barCells, ownCells, gatherCells, Finset.mem_union, Finset.mem_map, Finset.mem_univ, true_and, Function.Embedding.coeFn_mk]
  constructor
  · rintro (⟨c, rfl⟩ | ⟨p, rfl⟩)
    · exact ⟨(c, none), rfl⟩
    · exact ⟨(p.1, some p.2), rfl⟩
  · rintro ⟨⟨c, k⟩, rfl⟩
    rcases k with _ | p
    · exact Or.inl ⟨c, rfl⟩
    · exact Or.inr ⟨(c, p), rfl⟩

/-- The launch's element of the protocol's ghost state, parked on one device until all the counters are in hand. -/
def parkedOn (c₀ : Dev nD) (X : sProp 𝕄) (c : Dev nD) : sProp 𝕄 := if c = c₀ then X else iprop(emp)
omit [FloatOps F] in
theorem bigSep_parked (c₀ : Dev nD) (X : sProp 𝕄) : bigSep Finset.univ (parkedOn c₀ X) = X := by
  rw [bigSep_univ_at _ c₀, bigSep_congr (s := Finset.univ.erase c₀) (Φ := parkedOn c₀ X) (Ψ := fun _ => (BI.emp : sProp 𝕄))
      fun c hc => by unfold parkedOn; rw [if_neg (Finset.ne_of_mem_erase hc)]; rfl, BI.bigSep_emp_const]
  unfold parkedOn; rw [if_pos rfl]
  exact (BI.sep_emp (P := X)).1.antisymm BI.sep_emp.2

def u₀ : UU :=
  (initOf (Pipeline.cells cfgs cellOf_inj) (Pipeline.launchToks cfgs cellOf_inj), launchOf barCells ownCells gatherToks)

def G : Dev nD → sProp 𝕄 := parkedOn 0 (BI.own (ER (launchOf barCells ownCells gatherToks)))

/-- The duty tokens of device `c`'s own cells. -/
def toks (c : Dev nD) : sProp 𝕄 :=
  iprop((dutyTok ER (barCell c) 0 false ∗ dutyTok ER (barCell c) 0 true)
    ∗ (bigSep Finset.univ fun x : Xf => dutyTok ER (sendCell c x) 0 false) ∗ bigSep Finset.univ fun x : Xf => dutyTok ER (recvCell c x) 0 false)

omit [FloatOps F] in
theorem toks_eq (c : Dev nD) : (bigSep Finset.univ fun j : Duty => (dutyTok ER (tokOf (c, j)).1 (tokOf (c, j)).2.1 (tokOf (c, j)).2.2 : sProp 𝕄)) = toks c := by
  rw [bigSep_univ_sum]
  unfold toks
  congr 1
  · exact bigSep_univ_eq_bigSepL [false, true] (by decide) (by decide) _
  · rw [bigSep_univ_prod]
    exact bigSep_univ_eq_bigSepL [false, true] (by decide) (by decide) _

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The kernel's own semaphores and the barrier are the protocol's. -/
theorem sems0_eq (c : Dev nD) :
    (sems0 c : sProp 𝕄) = iprop(unscopedSems0 c ∗ Pipeline.ownSems0 (Ix := Unit) (Name := ℕ) (U := UU) (Lvl := ℕ) (Val := Elt F) (τ := τ) osem c) := by
  rw [unscopedSems0_eq]
  unfold sems0 Pipeline.ownSems0
  congr 1
  rw [bigSep_univ_prod fun p : Bool × Xf => (semVal ((c : Thread nD τ), osem p) 0 : sProp 𝕄)]
  exact (bigSep_univ_eq_bigSepL [false, true] (by decide) (by decide)
    fun b : Bool => (bigSep Finset.univ fun x : Xf => semVal ((c : Thread nD τ), osem (b, x)) 0 : sProp 𝕄)).symm

omit [FloatOps F] in
theorem sems0_cells (c : Dev nD) : (sems0 c : sProp 𝕄) = bigSep Finset.univ fun k : Ck => semVal (kcell (c, k)) 0 := by
  rw [bigSep_ck]; rfl

/-- The tokens device `c` pays with. -/
def payToks (c : Dev nD) : sProp 𝕄 :=
  iprop((dutyTok ER (barCell (nxt c)) 0 false ∗ dutyTok ER (barCell (prv c)) 0 true)
    ∗ (bigSep Finset.univ fun x : Xf => dutyTok ER (sendCell c x) 0 false) ∗ bigSep Finset.univ fun x : Xf => dutyTok ER (recvCell (tgt x c) x) 0 false)

/-- Where a transfer goes, as a rotation of the ring. -/
def tgtEquiv (x : Xf) : Dev nD ≃ Dev nD := ⟨tgt x, src x, src_tgt x, tgt_src x⟩

omit [FloatOps F] in
/-- Every token dealt to the device that pays with it. -/
theorem toks_around : (bigSep Finset.univ fun c : Dev nD => (toks c : sProp 𝕄)) = bigSep Finset.univ fun c : Dev nD => payToks c := by
  unfold toks payToks
  have hR : (bigSep Finset.univ fun c : Dev nD => bigSep Finset.univ fun x : Xf => (dutyTok ER (recvCell c x) 0 false : sProp 𝕄))
      = bigSep Finset.univ fun c : Dev nD => bigSep Finset.univ fun x : Xf => dutyTok ER (recvCell (tgt x c) x) 0 false := by
    rw [Pipeline.bigSep_univ_comm, Pipeline.bigSep_univ_comm fun (c : Dev nD) (x : Xf) => (dutyTok ER (recvCell (tgt x c) x) 0 false : sProp 𝕄)]
    exact bigSep_congr fun x _ => bigSep_univ_equiv (tgtEquiv x) (fun c : Dev nD => (dutyTok ER (recvCell c x) 0 false : sProp 𝕄))
  rw [bigSep_sep', bigSep_sep', bigSep_sep', bigSep_sep', bigSep_sep', bigSep_sep', hR,
    bigSep_univ_equiv ring (fun c : Dev nD => (dutyTok ER (barCell c) 0 false : sProp 𝕄)),
    bigSep_univ_equiv ring.symm (fun c : Dev nD => (dutyTok ER (barCell c) 0 true : sProp 𝕄))]
  rfl

/-- What every device knows: the names of all cells, and that the barriers have begun. -/
def records (κ : GSem nD τ sig → ℕ) : sProp 𝕄 :=
  iprop(invs (ws V) (ss V) (fun ck => κ (kcell ck)) ∗ bigSep Finset.univ fun d : Dev nD => reached ER (barCell d) 0)
instance records_persistent (κ) : BI.Persistent (records V κ) := by unfold records; infer_instance

/-- What a device keeps of the launch until the call begins. -/
def kept (c : Dev nD) : sProp 𝕄 :=
  iprop((atPos ER (barCell c) 0 ∅ 0 ∗ (bigSep Finset.univ fun p : Bool × Xf => openTok ER (kcell (c, some p))) ∗ payToks c) ∗ creds c)
def dealt (c : Dev nD) : sProp 𝕄 := iprop(∃ κ, records V κ ∗ kept c)

omit [FloatOps F] in
theorem own_split (Φ : Bool × Xf → sProp 𝕄) : bigSep Finset.univ Φ
    = iprop((bigSep Finset.univ fun x => Φ (false, x)) ∗ bigSep Finset.univ fun x => Φ (true, x)) := by
  rw [bigSep_univ_prod]
  exact bigSep_univ_eq_bigSepL [false, true] (by decide) (by decide) _

theorem open_cells (κ : GSem nD τ sig → ℕ) (c : Dev nD) :
    iprop(invs (ws V) (ss V) (fun ck => κ (kcell ck)) ∗ (bigSep Finset.univ fun p : Bool × Xf => openTok ER (kcell (c, some p)))
        ∗ bigSep Finset.univ fun p : Bool × Xf => semVal (kcell (c, some p)) 0)
      ⊢ |={Set.univ}=> (bigSep Finset.univ fun p : Bool × Xf => iprop(atPos ER (kcell (c, some p)) 0 ∅ 0 ∗ reached ER (kcell (c, some p)) 0) : sProp 𝕄) := by
  rw [← bigSep_sep']
  refine (bigSep_with_persistent (R := invs (ws V) (ss V) (fun ck => κ (kcell ck))) fun p _ => ?_).trans (bigSep_fupd _ _)
  iintro ⟨#HI, Ho, Hv⟩
  iapply (Rounds.cell_open ER (sched (ws V) (ss V)) (g := kcell (c, some p)) (Set.mem_univ (κ (kcell (c, some p)))))
  isplitr
  · unfold invs
    iapply (show (bigSep Finset.univ fun ck : Dev nD × Ck => cellInv ER (sched (ws V) (ss V)) (κ (kcell ck)) (kcell ck))
      ⊢ (cellInv ER (sched (ws V) (ss V)) (κ (kcell (c, some p))) (kcell (c, some p)) : sProp 𝕄) from bigSep_elim (Finset.mem_univ (c, some p)))
    iexact HI
  isplitl [Ho] <;> iassumption

/-- The call begins: with its own counters in hand a device opens its cells. -/
theorem open_call (c : Dev nD) :
    iprop(dealt V c ∗ Pipeline.ownSems0 (Ix := Unit) (Name := ℕ) (U := UU) (Lvl := ℕ) (Val := Elt F) (τ := τ) osem c ∗ levAts L lv)
      ⊢ |={Set.univ}=> start V c := by
  unfold dealt records kept
  iintro ⟨⟨%κ, ⟨#HI, #HB⟩, ⟨HaB, Ho, Ht⟩, Hc⟩, Hv, #HL⟩
  imod (open_cells V κ c) $$ [Ho Hv] with HA
  · isplitr; · iexact HI
    isplitl [Ho]; · iexact Ho
    iapply (Entails.of_eq (show Pipeline.ownSems0 (Ix := Unit) (Name := ℕ) (U := UU) (Lvl := ℕ) (Val := Elt F) (τ := τ) osem c
      = (bigSep Finset.univ fun p : Bool × Xf => semVal (kcell (c, some p)) 0 : sProp 𝕄) from rfl)) $$ Hv
  imodintro
  ihave HA := (Entails.of_eq (bigSep_sep' Finset.univ (fun p : Bool × Xf => (atPos ER (kcell (c, some p)) 0 ∅ 0 : sProp 𝕄))
    (fun p => reached ER (kcell (c, some p)) 0))) $$ HA
  icases HA with ⟨Hat, #Hr⟩
  ihave Hat := (Entails.of_eq (own_split fun p : Bool × Xf => (atPos ER (kcell (c, some p)) 0 ∅ 0 : sProp 𝕄))) $$ Hat
  icases Hat with ⟨HaS, HaR⟩
  unfold start
  isplitr [Hc]
  · iexists fun ck => κ (kcell ck)
    isplitr; · iexact HI
    isplitr
    · unfold begun; isplitl; · iexact Hr
      iexact HB
    unfold payToks ghost
    rw [bigSep_sep']
    icases Ht with ⟨⟨HtN, HtP⟩, HtS, HtR⟩
    isplitl [HaB]; · iexact HaB
    isplitl [HtP]; · iexact HtP
    isplitl [HtN]; · iexact HtN
    isplitl [HtS HtR]
    · isplitl [HtS] <;> iassumption
    isplitl [HaS]; · iexact HaS
    iexact HaR
  isplitl [Hc]; · iexact Hc
  iexact HL

/-! ### What is owed to whom at the start -/

theorem bar_eq_iff {a b : Dev nD} : Iff (barCell a = barCell b) (a = b) :=
  ⟨fun h => congrArg (fun g : GSem nD τ sig => g.1.1) h, fun h => h ▸ rfl⟩
theorem recv_eq_iff {a b : Dev nD} {x y : Xf} : Iff (recvCell a x = recvCell b y) (a = b ∧ x = y) :=
  ⟨fun h => by
    have := kcell_injective (a₁ := (a, some (true, x))) (a₂ := (b, some (true, y))) h
    cases this; exact ⟨rfl, rfl⟩, fun h => by rw [h.1, h.2]⟩
theorem recv_ne_bar (a b : Dev nD) (x : Xf) : recvCell a x ≠ barCell b := fun h => by
  have := congrArg Prod.snd h; cases this

theorem owedL_bar (d c : Dev nD) (xs : List Xf) : owedL d xs (barCell c) () = 0 := by
  by_contra h
  obtain ⟨x, _, e⟩ := owedL_pos (Nat.pos_of_ne_zero h)
  exact recv_ne_bar _ _ _ e.symm

theorem owedL_recv (d c : Dev nD) (x : Xf) : ∀ xs : List Xf, xs.Nodup →
    owedL d xs (recvCell c x) () = if x ∈ xs ∧ d = src x c then NB x.lane else 0
  | [], _ => by rw [if_neg fun h => List.not_mem_nil h.1]; rfl
  | y :: ys, hn => by
    unfold owedL
    rw [Pi.add_apply, Finsupp.add_apply, tallyAt_apply, owedL_recv d c x ys hn.of_cons]
    by_cases hy : y = x
    · subst hy
      rw [if_neg fun h => (List.nodup_cons.mp hn).1 h.1, Nat.zero_add]
      by_cases hd : d = src y c
      · subst hd; rw [if_pos ⟨recv_eq_iff.mpr ⟨(tgt_src y c).symm, rfl⟩, rfl⟩, if_pos ⟨List.mem_cons_self, rfl⟩]
      · rw [if_neg fun h => hd (by rw [(recv_eq_iff.mp h.1).1, src_tgt]), if_neg fun h => hd h.2]
    · rw [if_neg (c := recvCell c x = recvCell (tgt y d) y ∧ () = ()) (fun h => hy (recv_eq_iff.mp h.1).2.symm), Nat.add_zero]
      simp only [List.mem_cons, Ne.symm hy, false_or]

theorem owed_bar (d c : Dev nD) : O₀ d (barCell c) () = (if d = nxt c then 1 else 0) + (if d = prv c then 1 else 0) := by
  unfold O₀ O₁
  rw [Pi.add_apply, Finsupp.add_apply, Pi.add_apply, Finsupp.add_apply, owedL_bar, tallyAt_apply, tallyAt_apply, Nat.zero_add, Nat.add_comm]
  congr 1
  · by_cases h : d = nxt c
    · subst h; rw [prv_nxt, if_pos ⟨rfl, rfl⟩, if_pos rfl]
    · rw [if_neg (fun h' => h (by rw [bar_eq_iff.mp h'.1, nxt_prv])), if_neg h]
  · by_cases h : d = prv c
    · subst h; rw [nxt_prv, if_pos ⟨rfl, rfl⟩, if_pos rfl]
    · rw [if_neg (fun h' => h (by rw [bar_eq_iff.mp h'.1, prv_nxt])), if_neg h]

theorem owed_recv (d c : Dev nD) (x : Xf) : O₀ d (recvCell c x) () = if d = src x c then NB x.lane else 0 := by
  unfold O₀ O₁
  rw [Pi.add_apply, Finsupp.add_apply, Pi.add_apply, Finsupp.add_apply, owedL_recv d c x sends sends_nodup,
    tallyAt_ne_cell (recv_ne_bar _ _ _), tallyAt_ne_cell (recv_ne_bar _ _ _), Finsupp.zero_apply, Nat.add_zero, Nat.add_zero]
  simp only [mem_sends, true_and]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (x : Xf) :
    tallyOn (recvCell c x) (launchCredit (Pipeline.owing O₀) 0 (recvCell c x)) = (tallyAt (recvCell c x) () (NB x.lane) : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (src x c) fun _ => NB x.lane, if_pos (Finset.mem_univ _)]

omit [FloatOps F] in
theorem creds_intro (c : Dev nD) : (Pipeline.launchCred O₀ c : sProp 𝕄) ⊢ creds c := by
  unfold Pipeline.launchCred creds
  rw [← launch_bar]
  simp only [← launch_recv]
  iintro H
  ihave H := (show (bigSep Finset.univ fun sm : SemLoc sig => cred (tallyOn ((c : Thread nD τ), sm) (launchCredit (Pipeline.owing O₀) 0 ((c : Thread nD τ), sm))))
      ⊢ (bigSep (Finset.univ.map (⟨csem, csem_injective⟩ : Ck ↪ SemLoc sig))
          fun sm => cred (tallyOn ((c : Thread nD τ), sm) (launchCredit (Pipeline.owing O₀) 0 ((c : Thread nD τ), sm))) : sProp 𝕄) from
    bigSep_subset (Finset.subset_univ _)) $$ H
  ihave H := (Entails.of_eq ((bigSep_map (⟨csem, csem_injective⟩ : Ck ↪ SemLoc sig)).trans (bigSep_ck _))) $$ H
  icases H with ⟨H1, -, H2⟩
  isplitl [H1]; · iexact H1
  iexact H2

/-! ### The dealing -/

omit [FloatOps F] in
theorem bar_sum (Φ : GSem nD τ sig → sProp 𝕄) : bigSep barCells Φ = bigSep Finset.univ fun c : Dev nD => Φ (barCell c) := by
  unfold barCells; rw [bigSep_map]; rfl
omit [FloatOps F] in
theorem own_sum (Φ : GSem nD τ sig → sProp 𝕄) :
    bigSep ownCells Φ = bigSep Finset.univ fun c : Dev nD => bigSep Finset.univ fun p : Bool × Xf => Φ (kcell (c, some p)) := by
  unfold ownCells; rw [bigSep_map, bigSep_univ_prod]; rfl
omit [FloatOps F] in
theorem tok_sum : bigSep gatherToks (fun x => (dutyTok ER x.1 x.2.1 x.2.2 : sProp 𝕄)) = bigSep Finset.univ fun c : Dev nD => toks c := by
  unfold gatherToks; rw [bigSep_map, bigSep_univ_prod]
  exact bigSep_congr fun c _ => toks_eq c
theorem inv_sum (κ : GSem nD τ sig → ℕ) : (bigSep (barCells ∪ ownCells) fun g => cellInv ER (sched (ws V) (ss V)) (κ g) g : sProp 𝕄)
    = invs (ws V) (ss V) (fun ck => κ (kcell ck)) := by
  rw [cells_union]; unfold gatherCells invs; rw [bigSep_map]; rfl

/-- With the barriers of all devices in hand, the launch deals. -/
theorem deal :
    iprop((bigSep Finset.univ fun c : Dev nD => (unscopedSems0 c : sProp 𝕄)) ∗ bigSep Finset.univ (G (F := F))
        ∗ bigSep Finset.univ fun c : Dev nD => (creds c : sProp 𝕄))
      ⊢ |={Set.univ}=> bigSep Finset.univ (dealt V) := by
  iintro ⟨Hv, HG, Hc⟩
  ihave Hu := (show bigSep Finset.univ (G (F := F)) ⊢ BI.own (ER (launchOf barCells ownCells gatherToks)) from
    Entails.of_eq (bigSep_parked (F := F) 0 (BI.own (ER (launchOf barCells ownCells gatherToks))))) $$ HG
  ihave Hv := (Entails.of_eq ((bigSep_congr (s := Finset.univ) fun (c : Dev nD) _ => unscopedSems0_eq (F := F) c).trans
    (bar_sum (F := F) fun g => semVal g 0).symm)) $$ Hv
  imod (Rounds.fund_launch ER (sched (ws V) (ss V)) cells_disjoint (fun g _ h => h) gatherToks) $$ [Hv Hu] with ⟨%κ, -, #Hinv, #Hr, Hat, Hopen, Htok⟩
  · isplitl [Hv] <;> iassumption
  imodintro
  ihave #Hinv := (Entails.of_eq (inv_sum V κ)) $$ Hinv
  ihave #Hr := (Entails.of_eq (bar_sum fun g => (reached ER g 0 : sProp 𝕄))) $$ Hr
  ihave Hat := (Entails.of_eq (bar_sum fun g => (atPos ER g 0 ∅ 0 : sProp 𝕄))) $$ Hat
  ihave Hopen := (Entails.of_eq (own_sum fun g => (openTok ER g : sProp 𝕄))) $$ Hopen
  ihave Htok := (Entails.of_eq (tok_sum.trans toks_around)) $$ Htok
  iapply (bigSep_with_persistent (R := records V κ) (Φ := kept) fun c _ => by
    unfold dealt
    iintro ⟨#HR, Hk⟩
    iexists κ
    isplitr; · iexact HR
    iexact Hk)
  isplitr
  · unfold records; isplitl; · iexact Hinv
    iexact Hr
  unfold kept
  rw [bigSep_sep', bigSep_sep', bigSep_sep']
  isplitr [Hc]
  · isplitl [Hat]; · iexact Hat
    isplitl [Hopen]; · iexact Hopen
    iexact Htok
  iexact Hc

end Cert.AllGather

end
-- ==== Proof.Records.lean ====
/-
  The three calls as parts of the whole program: each entered with all of a device's buffers, and left with them.
-/
module

public import proofs.«01_k».proof.Proof.Deal
public import proofs.«01_k».proof.Proof.Gen.KernelIdeal.Regions
public import Idealize.ShloMosaic.Lib.Pipeline.RegionTalk
public import Idealize.ShloMosaic.Lib.Pipeline.Launch
public import Idealize.ShloMosaic.Lib.Pipeline.Kit
public import Idealize.ShloMosaic.Lib.Pipeline.ValueKit
public import Idealize.ShloMosaic.Lib.Tactic
public import Idealize.ShloMosaic.Lib.VecWindow
public import Idealize.ShloMosaic.Lib.WritesUnit

@[expose] public section

set_option maxRecDepth 16384

noncomputable section

namespace Cert.AllGather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UU ℕ

/-! ## What each call leaves in the buffers -/

/-- The buffers a call leaves, from those it is entered with. -/
def out0 (V : Held F) : Held F := fun c =>
  Function.update (Function.update (Function.update (V c) main_v50_0 ((dat0 V c).arrAt (3 : Fin 6) cfg0.N))
    main_v50_1 ((dat0 V c).arrAt (4 : Fin 6) cfg0.N)) main_v50_2 ((dat0 V c).arrAt (5 : Fin 6) cfg0.N)
def out1 (V : Held F) : Held F := fun c => Function.update (V c) main_v54 ((dat1 V c).arrAt (3 : Fin 4) cfg1.N)
def out2 (V : Held F) : Held F := fun c => Function.update (V c) main_v58 ((dat2 V c).arrAt (3 : Fin 4) cfg2.N)

theorem ref_ne {r r' : Ref sig .tc} (h : r ≠ r') : (Proc.devRef .tc r : DevRef τ sig) ≠ Proc.devRef .tc r' := StableHlo.devRef_ne_of_ne h

variable (V : Held F)

theorem out0_of (c : Dev nD) (b : DevRef τ sig) (h0 : b ≠ Proc.devRef .tc main_v50_0) (h1 : b ≠ Proc.devRef .tc main_v50_1)
    (h2 : b ≠ Proc.devRef .tc main_v50_2) : out0 V c b = V c b := by
  unfold out0; rw [Function.update_of_ne h2, Function.update_of_ne h1, Function.update_of_ne h0]
theorem out0_q (c : Dev nD) : out0 V c main_v50_0 = (dat0 V c).arrAt (3 : Fin 6) cfg0.N := by
  unfold out0; rw [Function.update_of_ne (ref_ne (by decide)), Function.update_of_ne (ref_ne (by decide)), Function.update_self]
theorem out0_w (c : Dev nD) : out0 V c main_v50_1 = (dat0 V c).arrAt (4 : Fin 6) cfg0.N := by
  unfold out0; rw [Function.update_of_ne (ref_ne (by decide)), Function.update_self]
theorem out0_s (c : Dev nD) : out0 V c main_v50_2 = (dat0 V c).arrAt (5 : Fin 6) cfg0.N := by
  unfold out0; rw [Function.update_self]
theorem out1_of (c : Dev nD) (b : DevRef τ sig) (h : b ≠ Proc.devRef .tc main_v54) : out1 V c b = V c b := by
  unfold out1; rw [Function.update_of_ne h]
theorem out1_ctx (c : Dev nD) : out1 V c main_v54 = (dat1 V c).arrAt (3 : Fin 4) cfg1.N := by
  unfold out1; rw [Function.update_self]
theorem out2_of (c : Dev nD) (b : DevRef τ sig) (h : b ≠ Proc.devRef .tc main_v58) : out2 V c b = V c b := by
  unfold out2; rw [Function.update_of_ne h]
theorem out2_o (c : Dev nD) : out2 V c main_v58 = (dat2 V c).arrAt (3 : Fin 4) cfg2.N := by
  unfold out2; rw [Function.update_self]

theorem not_arr {W gr : ℕ} {spec : Fin W → Pipeline.WinSpec sig gr} {b : DevRef τ sig} (h : b ∉ (Pipeline.arrRefs spec : Finset (DevRef τ sig)))
    (w : Fin W) : b ≠ Proc.devRef .tc (Pipeline.arrRef spec w) := fun e =>
  h (e ▸ Finset.mem_map_of_mem _ (Finset.mem_image_of_mem _ (Finset.mem_univ w)))

/-! ## The calls' records -/

variable (A B C : Held F)

/-- The data of the three calls, each from the buffers it is entered with. -/
def pdats (p : Fin 3) (c : Dev nD) : Dat τ (Elt F) Unit ℕ UU ℕ (cfgs p) c :=
  match p with
  | ⟨0, _⟩ => dat0 A c
  | ⟨1, _⟩ => dat1 B c
  | ⟨2, _⟩ => dat2 C c

/-- The buffers no window of a call names. -/
abbrev others {W gr : ℕ} (spec : Fin W → Pipeline.WinSpec sig gr) : Finset (DevRef τ sig) := Pipeline.ucRefs τ sig \ Pipeline.arrRefs spec

omit [FloatOps F] in
theorem lv_stage {c : Dev nD} {sm : SemLoc sig} (h : role sm = none) : lv ((c : Thread nD τ), sm) () = 0 := by dsimp only [lv]; rw [h]
theorem stage_role1 : ∀ (w : Fin 4) (s : Fin (cfg1.spec w).nbuf), role (.dma ((cfg1.spec w).sem s)) = none := by decide +kernel
theorem stage_role2 : ∀ (w : Fin 4) (s : Fin (cfg2.spec w).nbuf), role (.dma ((cfg2.spec w).sem s)) = none := by decide +kernel

theorem owed_level {c : Dev nD} {g : GSem nD τ sig} {u : Unit} (hg : 0 < O₀ c g u) : u ∈ L g ∧ 0 < lv g u := by
  unfold O₀ O₁ at hg
  rw [Pi.add_apply, Finsupp.add_apply, Pi.add_apply, Finsupp.add_apply, tallyAt_apply, tallyAt_apply] at hg
  by_cases h1 : g = barCell (prv c) ∧ u = ()
  · rw [h1.1]; exact ⟨Finset.mem_singleton_self _, Nat.one_pos⟩
  · by_cases h2 : g = barCell (nxt c) ∧ u = ()
    · rw [h2.1]; exact ⟨Finset.mem_singleton_self _, Nat.one_pos⟩
    · rw [if_neg h1, if_neg h2] at hg
      obtain ⟨x, -, rfl⟩ := owedL_pos (by simpa using hg)
      exact ⟨Finset.mem_singleton_self _, by cases u; rw [lv_recv]; omega⟩

theorem pin_kit (p : Fin 3) (h : Pipeline.LaunchFacts (nD := nD) (τ := τ) cfgs p) : Pipeline.PLaunchFacts (nD := nD) (τ := τ) (pcfgs (F := F)) p := h.toP

set_option backward.isDefEq.respectTransparency.types false in
/-- The gathering call. -/
def reg0 : RegionSeg (pcfgs (F := F)) adm (pdats A B C) () defs₀ 𝒱₀ L lv 0 :=
  RegionSeg.ofTalk (pcfgs (F := F)) adm (pdats A B C) () defs₀ 𝒱₀ L lv 0 osem ownSemFacts ∅ (others spec0) (Finset.empty_subset _)
    (pin_kit 0 launch0) rfl (fun c => (body_obligation A c).loose) (fun _ => 0) O₀ (fun c => (zero_add _).symm) (fun _ => rfl)
    (fun _ => rfl) (fun c => (dat0 A c).share_full fun _ => rfl) A (out0 A)
    (fun c b hb => by
      have hb' := (Finset.mem_sdiff.mp (Finset.mem_sdiff.mp hb).1).2
      exact out0_of A c b (not_arr hb' (3 : Fin 6)) (not_arr hb' (4 : Fin 6)) (not_arr hb' (5 : Fin 6)))
    (dealt A) (fun c => unscopedSems0 c) (start A) (fun c => unscopedSems0 c) (open_call A)
    (fun c => by
      show _ ⊢ iprop(start A c ∗ besides spec0 c)
      unfold besides
      iintro ⟨Hr, Hp, -, Hs⟩
      isplitl [Hs]; · iexact Hs
      isplitl [Hr] <;> iassumption)
    (fun c => by
      show iprop(sems0 c ∗ besides spec0 c) ⊢ _
      rw [sems0_eq]
      unfold besides
      iintro ⟨⟨Hu, Ho⟩, Hr, Hp⟩
      isplitl [Hr]; · iexact Hr
      isplitl [Hp]; · iexact Hp
      isplitr; · unfold StableHlo.held; rw [bigSep_empty]; iempintro
      isplitl [Ho] <;> iassumption)
    (fun c => fupd_intro) (fun _ => 0)
    ⟨fun c w s => Finset.mem_singleton_self _, fun c w s => (lv_stage (stage_role w s)).le, fun c t g i hg => by
      rcases t with ⟨_ | _, ht⟩
      · exact owed_level hg
      · exact absurd hg (lt_irrefl _)⟩
    (fun _ => iprop(emp))
    (fun c w => rfl)
    (fun c w => by
      show (dat0 A c).arrAt w cfg0.N = _
      fin_cases w
      · exact ((dat0 A c).arrAt_in (0 : Fin 6) rfl _).trans (out0_of A c _ (ref_ne (by decide)) (ref_ne (by decide)) (ref_ne (by decide))).symm
      · exact ((dat0 A c).arrAt_in (1 : Fin 6) rfl _).trans (out0_of A c _ (ref_ne (by decide)) (ref_ne (by decide)) (ref_ne (by decide))).symm
      · exact ((dat0 A c).arrAt_in (2 : Fin 6) rfl _).trans (out0_of A c _ (ref_ne (by decide)) (ref_ne (by decide)) (ref_ne (by decide))).symm
      · exact (out0_q A c).symm
      · exact (out0_w A c).symm
      · exact (out0_s A c).symm)

set_option backward.isDefEq.respectTransparency.types false in
/-- The attention. -/
def reg1 : RegionSeg (pcfgs (F := F)) adm (pdats A B C) () defs₀ 𝒱₀ L lv 1 :=
  RegionSeg.ofHeld (pcfgs (F := F)) adm (pdats A B C) () defs₀ 𝒱₀ L lv 1 (fun _ => 0) (fun c => iprop(∃ r, prngReg c r)) (fun c => iprop(∃ r, prngReg c r))
    (pin_kit 1 launch1) rfl (fun c => (attend_obligation B c).loose) (fun _ _ => rfl) (fun _ => rfl)
    (fun c => (dat1 B c).share_full fun _ => rfl) (fun c => .rfl) (fun c => .rfl) (fun _ => 0)
    ⟨fun c w s => Finset.mem_singleton_self _, fun c w s => (lv_stage (stage_role1 w s)).le, fun c g i hg => absurd hg (lt_irrefl _)⟩
    (fun c => iprop(StableHlo.held (c : Thread nD τ) (others spec1) (B c) ∗ unscopedSems0 c)) B (out1 B)
    (fun c w => rfl)
    (fun c w => by
      show (dat1 B c).arrAt w cfg1.N = _
      fin_cases w
      · exact ((dat1 B c).arrAt_in (0 : Fin 4) rfl _).trans (out1_of B c _ (ref_ne (by decide))).symm
      · exact ((dat1 B c).arrAt_in (1 : Fin 4) rfl _).trans (out1_of B c _ (ref_ne (by decide))).symm
      · exact ((dat1 B c).arrAt_in (2 : Fin 4) rfl _).trans (out1_of B c _ (ref_ne (by decide))).symm
      · exact (out1_ctx B c).symm)

set_option backward.isDefEq.respectTransparency.types false in
/-- The projection of the contexts. -/
def reg2 : RegionSeg (pcfgs (F := F)) adm (pdats A B C) () defs₀ 𝒱₀ L lv 2 :=
  RegionSeg.ofHeld (pcfgs (F := F)) adm (pdats A B C) () defs₀ 𝒱₀ L lv 2 (fun _ => 0) (fun c => iprop(∃ r, prngReg c r)) (fun c => iprop(∃ r, prngReg c r))
    (pin_kit 2 launch2) rfl (fun c => (project_obligation C c).loose) (fun _ _ => rfl) (fun _ => rfl)
    (fun c => (dat2 C c).share_full fun _ => rfl) (fun c => .rfl) (fun c => .rfl) (fun _ => 0)
    ⟨fun c w s => Finset.mem_singleton_self _, fun c w s => (lv_stage (stage_role2 w s)).le, fun c g i hg => absurd hg (lt_irrefl _)⟩
    (fun c => iprop(StableHlo.held (c : Thread nD τ) (others spec2) (C c) ∗ unscopedSems0 c)) C (out2 C)
    (fun c w => rfl)
    (fun c w => by
      show (dat2 C c).arrAt w cfg2.N = _
      fin_cases w
      · exact ((dat2 C c).arrAt_in (0 : Fin 4) rfl _).trans (out2_of C c _ (ref_ne (by decide))).symm
      · exact ((dat2 C c).arrAt_in (1 : Fin 4) rfl _).trans (out2_of C c _ (ref_ne (by decide))).symm
      · exact ((dat2 C c).arrAt_in (2 : Fin 4) rfl _).trans (out2_of C c _ (ref_ne (by decide))).symm
      · exact (out2_o C c).symm)

/-- What rides beside the buffers: before the gathering call, and after it. -/
def rest (j : Fin 4) (c : Dev nD) : sProp 𝕄 :=
  match j with
  | ⟨0, _⟩ => iprop((∃ r, prngReg c r) ∗ dealt A c ∗ ∃ Wd, owes (c : Thread nD τ) (O₀ c) Wd)
  | ⟨_ + 1, _⟩ => iprop((∃ r, prngReg c r) ∗ unscopedSems0 c ∗ ∃ Wd, owes (c : Thread nD τ) (0 : CellTallies nD τ sig Unit) Wd)

set_option backward.isDefEq.respectTransparency.types false in
theorem reg0_pre (c : Dev nD) : iprop(StableHlo.held (c : Thread nD τ) (Pipeline.ucRefs τ sig) (A c) ∗ rest A 0 c) ⊢ (reg0 A B C).pre c := by
  show _ ⊢ iprop(StableHlo.held (c : Thread nD τ) (Pipeline.arrRefs spec0) (A c) ∗ (∃ r, prngReg c r)
    ∗ (StableHlo.held (c : Thread nD τ) (others spec0) (A c) ∗ emp) ∗ dealt A c ∗ ∃ Wd, owes (c : Thread nD τ) (0 + O₀ c) Wd)
  rw [StableHlo.held_sub_split (c : Thread nD τ) (Pipeline.arrRefs_sub_ucRefs spec0 winFacts0.arr_unscoped) (A c), zero_add]
  show iprop(_ ∗ (∃ r, prngReg c r) ∗ dealt A c ∗ ∃ Wd, owes (c : Thread nD τ) (O₀ c) Wd) ⊢ _
  iintro ⟨⟨Ha, Ho⟩, Hp, Hd, HO⟩
  isplitl [Ha]; · iexact Ha
  isplitl [Hp]; · iexact Hp
  isplitl [Ho]
  · isplitl; · iexact Ho
    iempintro
  isplitl [Hd] <;> iassumption

set_option backward.isDefEq.respectTransparency.types false in
theorem reg0_post (c : Dev nD) : (reg0 A B C).post c ⊢ iprop(StableHlo.held (c : Thread nD τ) (Pipeline.ucRefs τ sig) (out0 A c) ∗ rest A 1 c) := by
  show iprop(StableHlo.held (c : Thread nD τ) (Pipeline.arrRefs spec0) (out0 A c) ∗ (∃ r, prngReg c r)
    ∗ (StableHlo.held (c : Thread nD τ) (others spec0) (out0 A c) ∗ emp) ∗ unscopedSems0 c ∗ ∃ Wd, owes (c : Thread nD τ) (0 : CellTallies nD τ sig Unit) Wd) ⊢ _
  rw [StableHlo.held_sub_split (c : Thread nD τ) (Pipeline.arrRefs_sub_ucRefs spec0 winFacts0.arr_unscoped) (out0 A c)]
  show _ ⊢ iprop(_ ∗ (∃ r, prngReg c r) ∗ unscopedSems0 c ∗ ∃ Wd, owes (c : Thread nD τ) (0 : CellTallies nD τ sig Unit) Wd)
  iintro ⟨Ha, Hp, ⟨Ho, -⟩, Hd, HO⟩
  isplitl [Ha Ho]
  · isplitl [Ha] <;> iassumption
  isplitl [Hp]; · iexact Hp
  isplitl [Hd] <;> iassumption

set_option backward.isDefEq.respectTransparency.types false in
theorem reg1_pre (c : Dev nD) : iprop(StableHlo.held (c : Thread nD τ) (Pipeline.ucRefs τ sig) (B c) ∗ rest A 1 c) ⊢ (reg1 A B C).pre c := by
  show _ ⊢ iprop(StableHlo.held (c : Thread nD τ) (Pipeline.arrRefs spec1) (B c) ∗ (∃ r, prngReg c r)
    ∗ (StableHlo.held (c : Thread nD τ) (others spec1) (B c) ∗ unscopedSems0 c) ∗ ∃ Wd, owes (c : Thread nD τ) (0 : CellTallies nD τ sig Unit) Wd)
  rw [StableHlo.held_sub_split (c : Thread nD τ) (Pipeline.arrRefs_sub_ucRefs spec1 winFacts1.arr_unscoped) (B c)]
  show iprop(_ ∗ (∃ r, prngReg c r) ∗ unscopedSems0 c ∗ ∃ Wd, owes (c : Thread nD τ) (0 : CellTallies nD τ sig Unit) Wd) ⊢ _
  iintro ⟨⟨Ha, Ho⟩, Hp, Hd, HO⟩
  isplitl [Ha]; · iexact Ha
  isplitl [Hp]; · iexact Hp
  isplitl [Ho Hd]
  · isplitl [Ho] <;> iassumption
  iexact HO

theorem others_out1 (c : Dev nD) : ∀ b ∈ others spec1, B c b = out1 B c b := fun b hb =>
  (out1_of B c b (not_arr (Finset.mem_sdiff.mp hb).2 (3 : Fin 4))).symm
theorem others_out2 (c : Dev nD) : ∀ b ∈ others spec2, C c b = out2 C c b := fun b hb =>
  (out2_of C c b (not_arr (Finset.mem_sdiff.mp hb).2 (3 : Fin 4))).symm

set_option backward.isDefEq.respectTransparency.types false in
theorem reg1_post (c : Dev nD) : (reg1 A B C).post c ⊢ iprop(StableHlo.held (c : Thread nD τ) (Pipeline.ucRefs τ sig) (out1 B c) ∗ rest A 2 c) := by
  show iprop(StableHlo.held (c : Thread nD τ) (Pipeline.arrRefs spec1) (out1 B c) ∗ (∃ r, prngReg c r)
    ∗ (StableHlo.held (c : Thread nD τ) (others spec1) (B c) ∗ unscopedSems0 c) ∗ ∃ Wd, owes (c : Thread nD τ) (0 : CellTallies nD τ sig Unit) Wd) ⊢ _
  rw [StableHlo.held_sub_split (c : Thread nD τ) (Pipeline.arrRefs_sub_ucRefs spec1 winFacts1.arr_unscoped) (out1 B c),
    StableHlo.held_congr (c : Thread nD τ) (others_out1 B c)]
  show _ ⊢ iprop(_ ∗ (∃ r, prngReg c r) ∗ unscopedSems0 c ∗ ∃ Wd, owes (c : Thread nD τ) (0 : CellTallies nD τ sig Unit) Wd)
  iintro ⟨Ha, Hp, ⟨Ho, Hd⟩, HO⟩
  isplitl [Ha Ho]
  · isplitl [Ha] <;> iassumption
  isplitl [Hp]; · iexact Hp
  isplitl [Hd] <;> iassumption

set_option backward.isDefEq.respectTransparency.types false in
theorem reg2_pre (c : Dev nD) : iprop(StableHlo.held (c : Thread nD τ) (Pipeline.ucRefs τ sig) (C c) ∗ rest A 2 c) ⊢ (reg2 A B C).pre c := by
  show _ ⊢ iprop(StableHlo.held (c : Thread nD τ) (Pipeline.arrRefs spec2) (C c) ∗ (∃ r, prngReg c r)
    ∗ (StableHlo.held (c : Thread nD τ) (others spec2) (C c) ∗ unscopedSems0 c) ∗ ∃ Wd, owes (c : Thread nD τ) (0 : CellTallies nD τ sig Unit) Wd)
  rw [StableHlo.held_sub_split (c : Thread nD τ) (Pipeline.arrRefs_sub_ucRefs spec2 winFacts2.arr_unscoped) (C c)]
  show iprop(_ ∗ (∃ r, prngReg c r) ∗ unscopedSems0 c ∗ ∃ Wd, owes (c : Thread nD τ) (0 : CellTallies nD τ sig Unit) Wd) ⊢ _
  iintro ⟨⟨Ha, Ho⟩, Hp, Hd, HO⟩
  isplitl [Ha]; · iexact Ha
  isplitl [Hp]; · iexact Hp
  isplitl [Ho Hd]
  · isplitl [Ho] <;> iassumption
  iexact HO

set_option backward.isDefEq.respectTransparency.types false in
theorem reg2_post (c : Dev nD) : (reg2 A B C).post c ⊢ iprop(StableHlo.held (c : Thread nD τ) (Pipeline.ucRefs τ sig) (out2 C c) ∗ rest A 3 c) := by
  show iprop(StableHlo.held (c : Thread nD τ) (Pipeline.arrRefs spec2) (out2 C c) ∗ (∃ r, prngReg c r)
    ∗ (StableHlo.held (c : Thread nD τ) (others spec2) (C c) ∗ unscopedSems0 c) ∗ ∃ Wd, owes (c : Thread nD τ) (0 : CellTallies nD τ sig Unit) Wd) ⊢ _
  rw [StableHlo.held_sub_split (c : Thread nD τ) (Pipeline.arrRefs_sub_ucRefs spec2 winFacts2.arr_unscoped) (out2 C c),
    StableHlo.held_congr (c : Thread nD τ) (others_out2 C c)]
  show _ ⊢ iprop(_ ∗ (∃ r, prngReg c r) ∗ unscopedSems0 c ∗ ∃ Wd, owes (c : Thread nD τ) (0 : CellTallies nD τ sig Unit) Wd)
  iintro ⟨Ha, Hp, ⟨Ho, Hd⟩, HO⟩
  isplitl [Ha Ho]
  · isplitl [Ha] <;> iassumption
  isplitl [Hp]; · iexact Hp
  isplitl [Hd] <;> iassumption

end Cert.AllGather

end
-- ==== Proof.Run.lean ====
/-
  The run of the whole program on every device: the host's stretches and the three calls between them, for any float values.
-/
module

public import proofs.«01_k».proof.Proof.Records
public import Idealize.ShloMosaic.Lib.Pipeline.CollectiveSegs
public import Idealize.ShloMosaic.Lib.Pipeline.Launch
public import Idealize.ShloMosaic.Lib.Pipeline.Kit
public import Idealize.ShloMosaic.Lib.Pipeline.ValueKit
public import Idealize.ShloMosaic.Lib.Tactic
public import Idealize.ShloMosaic.Lib.VecWindow
public import Idealize.ShloMosaic.Lib.WritesUnit

@[expose] public section

set_option maxRecDepth 16384

noncomputable section

namespace Cert.AllGather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UU ℕ

/-! ## The buffers between the parts -/

variable (m : (ℓ : Loc nD τ sig) → Buf (Elt F) ℓ) (ρ : Dev nD → PrngReg)

/-- The buffers each call is entered with. -/
def A₀ : Held F := fun c => V5 m c
def B₀ : Held F := fun c => StableHlo.after hostOps1 (out0 (A₀ m) c)
def C₀ : Held F := fun c => StableHlo.after hostOps2 (out1 (B₀ m) c)
/-- The buffers at the end. -/
def D₀ : Held F := fun c => StableHlo.after hostOps3 (out2 (C₀ m) c)

/-- What the calls write. -/
def outs : Outs (F := F) := fun j r c =>
  match j with
  | 6 => out0 (A₀ m) c (Proc.devRef .tc r)
  | 8 => out1 (B₀ m) c (Proc.devRef .tc r)
  | _ => out2 (C₀ m) c (Proc.devRef .tc r)

theorem V6_eq (c : Dev nD) : V6 m (outs m) c = out0 (A₀ m) c := by
  show Function.update (Function.update (Function.update (A₀ m c) main_v50_0 (out0 (A₀ m) c main_v50_0)) main_v50_1 (out0 (A₀ m) c main_v50_1)) main_v50_2 (out0 (A₀ m) c main_v50_2) = _
  rw [out0_q, out0_w, out0_s]; rfl
theorem V7_eq (c : Dev nD) : V7 m (outs m) c = B₀ m c := by
  show StableHlo.after hostOps1 (V6 m (outs m) c) = _
  rw [V6_eq]; rfl
theorem V8_eq (c : Dev nD) : V8 m (outs m) c = out1 (B₀ m) c := by
  show Function.update (V7 m (outs m) c) main_v54 (out1 (B₀ m) c main_v54) = _
  rw [V7_eq, out1_ctx]; rfl
theorem V9_eq (c : Dev nD) : V9 m (outs m) c = C₀ m c := by
  show StableHlo.after hostOps2 (V8 m (outs m) c) = _
  rw [V8_eq]; rfl
theorem V10_eq (c : Dev nD) : V10 m (outs m) c = out2 (C₀ m) c := by
  show Function.update (V9 m (outs m) c) main_v58 (out2 (C₀ m) c main_v58) = _
  rw [V9_eq, out2_o]; rfl
theorem V11_eq (c : Dev nD) : V11 m (outs m) c = D₀ m c := by
  show StableHlo.after hostOps3 (V10 m (outs m) c) = _
  rw [V10_eq]; rfl

/-! ## The run -/

/-- The program's parts in order. -/
abbrev parts (c : Dev nD) :=
  segs m (outs m) 𝒱₀ L lv (rest (A₀ m)) () (pdats (A₀ m) (B₀ m) (C₀ m)) (reg0 (A₀ m) (B₀ m) (C₀ m)) (reg1 (A₀ m) (B₀ m) (C₀ m)) (reg2 (A₀ m) (B₀ m) (C₀ m)) c

theorem rest0_intro :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (rest (A₀ m) 0) : sProp 𝕄) := by
  show _ ⊢ (|={Set.univ}=> bigSep Finset.univ fun c : Dev nD => iprop((∃ r, prngReg c r) ∗ dealt (A₀ m) c ∗ ∃ Wd, owes (c : Thread nD τ) (O₀ c) Wd) : sProp 𝕄)
  rw [bigSep_sep', bigSep_sep', bigSep_sep', bigSep_sep', bigSep_sep', bigSep_sep']
  iintro ⟨⟨Hs, HO, Hc, Hp, HG⟩, -⟩
  ihave Hc := (show (bigSep Finset.univ fun c : Dev nD => Pipeline.launchCred O₀ c) ⊢ (bigSep Finset.univ fun c : Dev nD => creds c : sProp 𝕄) from bigSep_mono fun c _ => creds_intro c) $$ Hc
  imod (deal (A₀ m)) $$ [Hs HG Hc] with Hd
  · isplitl [Hs]; · iexact Hs
    isplitl [HG] <;> iassumption
  imodintro
  isplitl [Hp]
  · iapply (show (bigSep Finset.univ fun c : Dev nD => prngReg c (ρ c)) ⊢ (bigSep Finset.univ fun c : Dev nD => iprop(∃ r, prngReg c r) : sProp 𝕄) from
      bigSep_mono fun c _ => (show (prngReg c (ρ c) : sProp 𝕄) ⊢ iprop(∃ r, prngReg c r) from by iintro H; iexists _; iexact H))
    iexact Hp
  isplitl [Hd]; · iexact Hd
  iapply (show (bigSep Finset.univ fun c : Dev nD => owes (c : Thread nD τ) (O₀ c) ∅) ⊢ (bigSep Finset.univ fun c : Dev nD => iprop(∃ Wd, owes (c : Thread nD τ) (O₀ c) Wd) : sProp 𝕄) from
    bigSep_mono fun c _ => (show (owes (c : Thread nD τ) (O₀ c) ∅ : sProp 𝕄) ⊢ iprop(∃ Wd, owes (c : Thread nD τ) (O₀ c) Wd) from by iintro H; iexists _; iexact H))
  iexact HO

/-- What a device's memory holds at the end: its five arguments as at the start, the result as computed, and its counters at zero. -/
def Ends (c : Dev nD) (s : MemSt nD τ sig (Elt F)) : Prop :=
  (s.mem ((c.tc : Thread nD τ).loc main_v59) = D₀ m c main_v59
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ ∀ sm : SemLoc sig, sm.isScoped .tc = false → s.sem ((c.tc : Thread nD τ), sm) = 0

set_option backward.isDefEq.respectTransparency.types false in
/-- On the sixteen devices, for any float values, from any memory with all counters at zero: every fair execution of the whole
    program terminates, the arguments end as they began, the result as computed, and every counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats (A₀ m) (B₀ m) (C₀ m)) () cellOf_inj EP defs₀ 𝒱₀ L lv m ρ main
    (parts m)
    (fun c Q => by
      rewrite [main_chain c, Seg.run_eq_chain,
        show (parts m c).map Seg.prog = [
          StableHlo.seq (hostOps0 c), StableHlo.seq hostOps0_1, StableHlo.seq hostOps0_2, StableHlo.seq hostOps0_3, StableHlo.seq hostOps0_4,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3 ] from rfl]
      dsimp (config := { failIfUnchanged := false }) only
      exact .rfl)
    (fun c => by simp only [parts, segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      show _ ⊢ bigSep Finset.univ fun c : Dev nD => parkedOn 0 (BI.own (ER (launchOf barCells ownCells gatherToks))) c
      rw [bigSep_parked])
    (T₀ := fun c => iprop(StableHlo.held (c : Thread nD τ) (Pipeline.ucRefs τ sig) (V0 m c) ∗ rest (A₀ m) 0 c))
    (Tₙ := fun c => iprop(StableHlo.held (c : Thread nD τ) (Pipeline.ucRefs τ sig) (D₀ m c) ∗ unscopedSems0 c))
    (hch := fun c => ⟨.rfl, .rfl, .rfl, .rfl, .rfl, reg0_pre (A₀ m) (B₀ m) (C₀ m) c,
      (reg0_post (A₀ m) (B₀ m) (C₀ m) c).trans (by rw [← V6_eq m c]; exact .rfl),
      .trans (by rw [← V7_eq m c]; exact .rfl) (reg1_pre (A₀ m) (B₀ m) (C₀ m) c),
      (reg1_post (A₀ m) (B₀ m) (C₀ m) c).trans (by rw [← V8_eq m c]; exact .rfl),
      .trans (by rw [← V9_eq m c]; exact .rfl) (reg2_pre (A₀ m) (B₀ m) (C₀ m) c),
      (reg2_post (A₀ m) (B₀ m) (C₀ m) c).trans (by rw [← V10_eq m c]; exact .rfl),
      by
        show iprop(StableHlo.held (c : Thread nD τ) (Pipeline.ucRefs τ sig) (V11 m (outs m) c)
          ∗ (∃ r, prngReg c r) ∗ unscopedSems0 c ∗ ∃ Wd, owes (c : Thread nD τ) (0 : CellTallies nD τ sig Unit) Wd) ⊢ _
        rw [V11_eq]
        iintro ⟨Hh, -, Hu, HO⟩
        isplitl [Hh Hu]
        · isplitl [Hh] <;> iassumption
        iexact HO⟩)
    (hinit := ?_) (QY := Ends m) (hfin := fun c s' => ?_)
    (hQ := fun s h hs => ⟨h, sem_eq_zero hs fun c => (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (rest0_intro m ρ) $$ [Hr Hla] with HE
    · isplitl [Hr]; · iexact Hr
      iexact Hla
    imodintro
    rw [bigSep_sep']
    isplitl [Hh]; · iexact Hh
    iexact HE
  · unfold StableHlo.held
    iintro ⟨⟨Hh, Hu⟩, HSI⟩
    ihave Hr := (pointsTo_read_all (Pipeline.ucRefs τ sig) (fun b => ((c : Thread nD τ).1, b)) (D₀ m c) s') $$ [Hh HSI]
    · isplitl [Hh] <;> iassumption
    icases Hr with ⟨%h, HSI⟩
    imod (Pipeline.unscopedSems0_read (X := unscopedSems0 c) (c := c) fupd_intro s') $$ [Hu HSI] with ⟨%hz, HSI⟩
    · isplitl [Hu] <;> iassumption
    imodintro
    isplitr
    · ipureintro
      have hr (r : Ref sig .tc) (hs : (Proc.devRef .tc r : DevRef τ sig).isScoped = false) := h (Proc.devRef .tc r) (Finset.mem_filter.mpr ⟨StableHlo.devRef_mem_tcRefs r, by rw [hs]; decide⟩)
      refine ⟨⟨hr main_v59 rfl, (hr main_arg0 rfl).trans ?_, (hr main_arg1 rfl).trans ?_, (hr main_arg2 rfl).trans ?_, (hr main_arg3 rfl).trans ?_, (hr main_arg4 rfl).trans ?_⟩, hz⟩
      · rw [← V11_eq]; exact V11_main_arg0 m (outs m) c
      · rw [← V11_eq]; exact V11_main_arg1 m (outs m) c
      · rw [← V11_eq]; exact V11_main_arg2 m (outs m) c
      · rw [← V11_eq]; exact V11_main_arg3 m (outs m) c
      · rw [← V11_eq]; exact V11_main_arg4 m (outs m) c
    · iexact HSI

end Cert.AllGather

end
-- ==== Proof.Reference.lean ====
/-
  The reference's result in stages, for the whole arrays: the quantiser, the queries, the masked scores, their weights, the contexts and
  the projection.
-/
module

public import proofs.«01_k».proof.Proof.Gen.ReferenceIdeal.Run
public import Idealize.ShloMosaic.Lib.Pointwise

@[expose] public section

set_option maxRecDepth 16384

noncomputable section

namespace Cert.ReferenceIdeal

open Cert.ReferenceIdeal.Gen
open Idealize.ShloMosaic Idealize.ShloMosaic.TcCoe
open Idealize.SL.Sem

variable {F : FTy → Type} [FloatOps F]

/-! ## The stages -/

/-- The scale of every row. -/
def scales (W : FVec F S4096x512 .bf16) : FVec F S4096x1 .bf16 :=
  Host.divf (maximumf (broadcastInDim S4096x1 ![0] bcast_S4096_S4096x1_0
      (Host.reduce FloatOps.maximumf (Host.absf W) (constant S_ .bf16 0xFF80#16) reducesTo_S4096x512_S4096_d1 h_S_))
    (broadcastInDim S4096x1 ![] bcast_S_S4096x1 (constant S_ .bf16 0x1E3D#16)))
    (broadcastInDim S4096x1 ![] bcast_S_S4096x1 (constant S_ .bf16 0x42FE#16))

/-- The rows in their codes. -/
def codes (W : FVec F S4096x512 .bf16) : IVec S4096x512 8 :=
  trunci 8 (fptosi 32 (extf .f32 (Host.roundeven (Host.divf W (broadcastInDim S4096x512 ![0, 1] bcast_S4096x1_S4096x512_0_1 (scales W)))) bitsLt_bf16_f32)) natLt_8_32

/-- The rows quantised and scaled back. -/
def dequantised (W : FVec F S4096x512 .bf16) : FVec F S4096x512 .f32 :=
  mulf (sitofp .f32 (extsi 32 (codes W) natLt_8_32)) (broadcastInDim S4096x512 ![0, 1] bcast_S4096x1_S4096x512_0_1 (extf .f32 (scales W) bitsLt_bf16_f32))

/-- The rows the query weights are quantised by. -/
def rowsQ (Wq : FVec F S512x4096 .bf16) : FVec F S4096x512 .bf16 :=
  transpose S4096x512 [1, 0] Wq transposes_S512x4096_S4096x512_1_0

/-- The queries. -/
def queries (X : FVec F S32x128x512 .bf16) (D : FVec F S4096x512 .f32) : FVec F S32x128x64x64 .bf16 :=
  shapeCast _ (truncf .bf16 (Host.dotGeneral dot_S32x128x512_S512x4096_S32x128x4096_2_0_01_1_n_n none (extf .f32 X bitsLt_bf16_f32)
    (transpose S512x4096 [1, 0] D transposes_S4096x512_S512x4096_1_0)) bitsLt_bf16_f32) shapeCasts_S32x128x4096_S32x128x64x64

/-- The block of 64 a position lies in. -/
def blockOf : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- Which positions a position attends to. -/
def seen : IVec S128x128 1 :=
  cmpi .sle (broadcastInDim S128x128 ![0, 1] bcast_S1x128_S128x128_0_1 (broadcastInDim S1x128 ![1] bcast_S128_S1x128_1 blockOf))
    (broadcastInDim S128x128 ![0, 1] bcast_S128x1_S128x128_0_1 (broadcastInDim S128x1 ![0] bcast_S128_S128x1_0 blockOf))

/-- Which positions attend to any. -/
def kept : IVec S128 1 := Host.reduce IntOp.ori seen (constantI S_ 1 0#1) reducesTo_S128x128_S128_d1 h_S_

/-- The masked scores. -/
def scores (Q K : FVec F S32x128x64x64 .bf16) : FVec F S32x64x128x128 .f32 :=
  select (broadcastInDim S32x64x128x128 ![0, 1, 2, 3] bcast_S1x1x128x128_S32x64x128x128_0_1_2_3 (broadcastInDim S1x1x128x128 ![2, 3] bcast_S128x128_S1x1x128x128_2_3 seen))
    (mulf (extf .f32 (truncf .bf16 (Host.dotGeneral dot_S32x128x64x64_S32x128x64x64_S32x64x128x128_3_3_1_1_02_02 none Q K) bitsLt_bf16_f32) bitsLt_bf16_f32)
      (broadcastInDim S32x64x128x128 ![] bcast_S_S32x64x128x128 (constant S_ .f32 0x3E000000#32)))
    (broadcastInDim S32x64x128x128 ![] bcast_S_S32x64x128x128 (id (constant S_ .f32 0xCE6E6B28#32)))

/-- The exponentials of the scores below their row's largest. -/
def exps (S : FVec F S32x64x128x128 .f32) : FVec F S32x64x128x128 .f32 :=
  Host.exp (subf S (broadcastInDim S32x64x128x128 ![0, 1, 2, 3] bcast_S32x64x128x1_S32x64x128x128_0_1_2_3
    (broadcastInDim S32x64x128x1 ![0, 1, 2] bcast_S32x64x128_S32x64x128x1_0_1_2
      (Host.reduce FloatOps.maximumf S (constant S_ .f32 0xFF800000#32) reducesTo_S32x64x128x128_S32x64x128_d3 h_S_))))

/-- The weights of the positions. -/
def weights (E : FVec F S32x64x128x128 .f32) : FVec F S32x64x128x128 .f32 :=
  select (broadcastInDim S32x64x128x128 ![0, 1, 2, 3] bcast_S1x1x128x1_S32x64x128x128_0_1_2_3 (broadcastInDim S1x1x128x1 ![2] bcast_S128_S1x1x128x1_2 kept))
    (Host.divf E (broadcastInDim S32x64x128x128 ![0, 1, 2, 3] bcast_S32x64x128x1_S32x64x128x128_0_1_2_3
      (select (broadcastInDim S32x64x128x1 ![0, 1, 2, 3] bcast_S1x1x128x1_S32x64x128x1_0_1_2_3 (broadcastInDim S1x1x128x1 ![2] bcast_S128_S1x1x128x1_2 kept))
        (broadcastInDim S32x64x128x1 ![0, 1, 2] bcast_S32x64x128_S32x64x128x1_0_1_2
          (Host.reduceAdd E (constant S_ .f32 0x00000000#32) reducesTo_S32x64x128x128_S32x64x128_d3 h_S_))
        (broadcastInDim S32x64x128x1 ![] bcast_S_S32x64x128x1 (id (constant S_ .f32 0x3F800000#32))))))
    (broadcastInDim S32x64x128x128 ![] bcast_S_S32x64x128x128 (id (constant S_ .f32 0x00000000#32)))

/-- The contexts, a row for every position. -/
def contexts (V : FVec F S32x128x64x64 .bf16) (P : FVec F S32x64x128x128 .f32) : FVec F S4096x4096 .f32 :=
  shapeCast _ (transpose S32x128x64x64 [0, 3, 1, 2]
    (Host.dotGeneral dot_S32x128x64x64_S32x64x128x128_S32x64x64x128_1_3_3_2_02_01 none (extf .f32 V bitsLt_bf16_f32) P)
    transposes_S32x64x64x128_S32x128x64x64_0_3_1_2) shapeCasts_S32x128x64x64_S4096x4096

/-- The contexts projected. -/
def projected (C : FVec F S4096x4096 .f32) (D : FVec F S4096x512 .f32) : FVec F S32x128x512 .f32 :=
  shapeCast _ (Host.dotGeneral dot_S4096x4096_S4096x512_S4096x512_1_0_0_1_n_n none C D) shapeCasts_S4096x512_S32x128x512

/-- The reference's result. -/
def result (X : FVec F S32x128x512 .bf16) (Wq : FVec F S512x4096 .bf16) (K V : FVec F S32x128x64x64 .bf16) (Wo : FVec F S4096x512 .bf16) :
    FVec F S32x128x512 .f32 :=
  projected (contexts V (weights (exps (scores (queries X (dequantised (rowsQ Wq))) K)))) (dequantised Wo)

theorem result_eq (m : (ℓ : Loc nD τ sig) → Buf (Elt F) ℓ) (c : Dev nD) :
    Value.res_main_v77 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal

end
-- ==== Proof.Spec.lean ====
/-
  What one row of weights, one head's attention and one row of the output are, at exact real arithmetic; and the laws by which the
  order of a scaling and a sum may be changed.
-/
module

public import Idealize.ShloMosaic.Lib.Pointwise

@[expose] public section

set_option maxRecDepth 16384

noncomputable section

namespace Cert.Spec

open Idealize.ShloMosaic

/-- The largest of a family, from the least float. -/
def top {n : ℕ} (S : Fin n → EReal) : EReal := Finset.univ.fold max (Ideal.ofBits .f32 0xFF800000#32) S

/-- A row's largest absolute value. -/
def largest {n : ℕ} (w : Fin n → EReal) : EReal := Finset.univ.fold max (Ideal.ofBits .bf16 0xFF80#16) fun t => max (w t) (-(w t))

/-- A row's scale: its largest absolute value, not below a small constant, over 127. -/
def scale {n : ℕ} (w : Fin n → EReal) : EReal :=
  Ideal.div (max (largest w) (Ideal.ofBits .bf16 0x1E3D#16)) (Ideal.ofBits .bf16 0x42FE#16)

/-- A row's code at one place. -/
def code {n : ℕ} (w : Fin n → EReal) (t : Fin n) : BitVec 8 :=
  BitVec.setWidth 8 (Ideal.fptosi 32 (Ideal.liftRound Ideal.roundHalfEven (Ideal.div (w t) (scale w))))

/-- The number a code stands for. -/
def val {n : ℕ} (w : Fin n → EReal) (t : Fin n) : EReal := (((code w t).toInt : ℝ) : EReal)

/-- The row quantised and scaled back. -/
def deq {n : ℕ} (w : Fin n → EReal) (t : Fin n) : EReal := val w t * scale w

/-- The block of 64 a position lies in. -/
def blk (i : Fin 128) : BitVec 32 := BitVec.ofNat 32 (i.val / 64)

/-- The masked scores of a position. -/
def score (q k : Fin 128 → Fin 64 → EReal) (i j : Fin 128) : EReal :=
  Scalar.select (IntOp.cmpi .sle (blk j) (blk i)) ((∑ x, q i x * k j x) * Ideal.ofBits .f32 0x3E000000#32) (Ideal.ofBits .f32 0xCE6E6B28#32)

/-- The weight of a position among the scores. -/
def weight (S : Fin 128 → EReal) (j : Fin 128) : EReal :=
  Ideal.div (Ideal.exp (S j - top S)) (∑ x, Ideal.exp (S x - top S))

/-- One head's attention. -/
def attn (q k v : Fin 128 → Fin 64 → EReal) (i : Fin 128) (d : Fin 64) : EReal := ∑ j, weight (score q k i) j * v j d

/-! ## The scales -/

theorem ofBits_small_pos : (0 : EReal) < Ideal.ofBits .bf16 0x1E3D#16 := by
  simp [Ideal.ofBits, Ideal.ieee]
  positivity

theorem ofBits_127 : Ideal.ofBits .bf16 0x42FE#16 = ((127 : ℝ) : EReal) := by
  simp [Ideal.ofBits, Ideal.ieee]
  rw [← EReal.coe_mul]
  norm_num

theorem scale_nonneg {n : ℕ} (w : Fin n → EReal) : 0 ≤ scale w := by
  have h : (0 : EReal) ≤ max (top fun t => max (w t) (-(w t))) (Ideal.ofBits .bf16 0x1E3D#16) :=
    (le_of_lt ofBits_small_pos).trans (le_max_right _ _)
  unfold scale Ideal.div
  rw [ofBits_127, if_neg (by norm_num)]
  exact mul_nonneg h (EReal.inv_nonneg_of_nonneg (by norm_num))

/-- A row whose scale is infinite has every code zero. -/
theorem val_of_top {n : ℕ} (w : Fin n → EReal) (t : Fin n) (h : scale w = ⊤) : val w t = 0 := by
  have h1 : Ideal.div (w t) ⊤ = ((0 : ℝ) : EReal) := by simp [Ideal.div]
  have h2 : Ideal.roundHalfEven 0 = 0 := by simp [Ideal.roundHalfEven]
  have h3 : Ideal.liftRound Ideal.roundHalfEven ((0 : ℝ) : EReal) = ((0 : ℝ) : EReal) := by
    show (((Ideal.roundHalfEven 0 : ℤ) : ℝ) : EReal) = _
    rw [h2, Int.cast_zero]
  have h4 : Ideal.fptosi 32 ((0 : ℝ) : EReal) = 0#32 := by
    show BitVec.ofInt 32 (max _ (min _ (if (0 : ℝ) ≤ 0 then ⌊(0 : ℝ)⌋ else ⌈(0 : ℝ)⌉))) = _
    simp
  unfold val code
  rw [h, h1, h3, h4]
  simp

/-- A sum of products scaled once is the sum of the products with the second factor scaled. -/
theorem sum_scaled {n : ℕ} (x w : Fin n → EReal) (s : EReal) (h0 : 0 ≤ s) (h1 : s < ⊤) :
    (∑ t, x t * w t) * s = ∑ t, x t * (w t * s) := by
  induction n with
  | zero => simp
  | succ n ih =>
    rw [Fin.sum_univ_castSucc, Fin.sum_univ_castSucc, EReal.right_distrib_of_nonneg_of_ne_top h0 h1.ne, ih, mul_assoc]

/-- Scaling after the sum is scaling the row, whatever the row: its scale is not negative, and where it is infinite the codes are zero. -/
theorem sum_deq {n : ℕ} (x w : Fin n → EReal) : (∑ t, x t * val w t) * scale w = ∑ t, x t * deq w t := by
  rcases lt_or_eq_of_le (le_top (a := scale w)) with h | h
  · exact sum_scaled x (val w) (scale w) (scale_nonneg w) h
  · simp [deq, val_of_top w _ h]

end Cert.Spec

end
-- ==== Proof.Stages.lean ====
/-
  The bodies and the host stages of the kernel's program at one element, at exact real arithmetic.
-/
module

public import proofs.«01_k».proof.Proof.Run
public import proofs.«01_k».proof.Proof.Spec
public import Idealize.ShloMosaic.Lib.Pointwise
public import Idealize.ShloMosaic.Lib.StableHlo.ReadAt

@[expose] public section

set_option maxRecDepth 16384

noncomputable section

namespace Cert.AllGather

open Cert.KernelIdeal Cert.KernelIdeal.Gen
open Idealize.ShloMosaic Idealize.ShloMosaic.TcCoe
open Idealize.SL.Sem
open Idealize.ShloMosaic.ValueKit

/-! ## The attention's body -/

theorem rowWord_at (i j : Fin 128) : k1_pay2 (ix2 i j) = Spec.blk i := by
  pointwise [k1_pay2]
  revert i
  decide +kernel

theorem colWord_at (i j : Fin 128) :
    Scalar.select (IntOp.andi (k1_pay4 (ix2 i j)) (k1_pay5 (ix2 i j))) (IntOp.subi (k1_pay3 (ix2 i j)) 1#32) (k1_pay3 (ix2 i j)) = Spec.blk j := by
  pointwise [k1_pay3, k1_pay4, k1_pay5]
  revert j
  decide +kernel

theorem pay1_at (a b : IVec S128x128 32) (a' b' : IVec S128x128 1) (q k v : FVec Ideal S32x128x64 .bf16) (g : Fin 32) (i : Fin 128) (d : Fin 64)
    (S : Fin 128 → EReal)
    (hS : ∀ x, S x = Scalar.select (IntOp.cmpi .sle (Scalar.select (IntOp.andi (a' (ix2 i x)) (b' (ix2 i x))) (IntOp.subi (b (ix2 i x)) 1#32) (b (ix2 i x))) (a (ix2 i x)))
      ((∑ y : Fin 64, (q (ix3 g i y) : EReal) * k (ix3 g x y)) * Ideal.ofBits .f32 0x3E000000#32) (Ideal.ofBits .f32 0xCE6E6B28#32)) :
    (k1_pay1 (F := Ideal) a b a' b' q k v (ix3 g i d) : EReal) = ∑ x : Fin 128, Spec.weight S x * (v (ix3 g x d) : EReal) := by
  obtain rfl : S = _ := funext hS
  pointwise [k1_pay1]
  rfl

theorem ATT_at (q k v : FVec Ideal S32x128x64 .bf16) (g : Fin 32) (i : Fin 128) (d : Fin 64) :
    (ATT (F := Ideal) q k v (ix3 g i d) : EReal)
      = Spec.attn (fun i d => (q (ix3 g i d) : EReal)) (fun i d => (k (ix3 g i d) : EReal)) (fun i d => (v (ix3 g i d) : EReal)) i d := by
  unfold ATT
  refine pay1_at _ _ _ _ q k v g i d _ fun x => ?_
  rw [colWord_at, rowWord_at]
  rfl

/-! ## The projection's body -/

theorem outTerm_at (C : FVec Ideal S256x4096 .bf16) (A : IVec S8192x512 8) (B : FVec Ideal S16x512 .f32) (k : Fin 16) (r : Fin 256) (n : Fin 512) :
    (outTerm (F := Ideal) C A B k (ix2 r n) : EReal)
      = ∑ x : Fin 256, (C (ix2 r (⟨k.val * 256 + x.val, by omega⟩ : Fin 4096)) : EReal) * B (ix2 k (⟨256 + x.val, by omega⟩ : Fin 512))
        * (((A (ix2 (⟨512 * k.val + 256 + x.val, by omega⟩ : Fin 8192) n)).toInt : ℝ) : EReal) := by
  pointwise [outTerm]
  refine Finset.sum_congr rfl fun x _ => congr (congrArg _ (congr (congrArg _ (congrArg C ?_)) (congrArg B ?_)))
    (congrArg (fun b : BitVec 8 => (((b.toInt : ℝ)) : EReal)) (congrArg A ?_))
  all_goals
    funext a
    refine Fin.ext ?_
    erw [rect_emb_unit_val]
    fin_cases a
  · show 0 + r.val = r.val
    omega
  · show 256 * k.val + x.val = k.val * 256 + x.val
    omega
  · rfl
  · rfl
  · rfl
  · show 0 + n.val = n.val
    omega

theorem OUT_at (C : FVec Ideal S256x4096 .bf16) (A : IVec S8192x512 8) (B : FVec Ideal S16x512 .f32) (r : Fin 256) (n : Fin 512) :
    (OUT (F := Ideal) C A B (ix2 r n) : EReal) = ∑ k : Fin 16, (outTerm (F := Ideal) C A B k (ix2 r n) : EReal) := by
  have h0 : Ideal.ofBits .f32 0x00000000#32 = 0 := Ideal.ofBits_zero_f32
  unfold OUT
  have : ∀ (l : List (Fin 16)) (z : FVec Ideal S256x512 .f32), ((l.foldl (fun acc k => addf acc (outTerm (F := Ideal) C A B k)) z) (ix2 r n) : EReal)
      = z (ix2 r n) + (l.map fun k => (outTerm (F := Ideal) C A B k (ix2 r n) : EReal)).sum := fun l => by
    induction l with
    | nil => intro z; simp
    | cons k l ih =>
      intro z
      rw [List.foldl_cons, ih, List.map_cons, List.sum_cons, ← add_assoc]
      rfl
  rw [this]
  have hz : ((broadcast S256x512 (Scalar.ofBits .f32 0x00000000#32 : Ideal .f32) : FVec Ideal S256x512 .f32) (ix2 r n) : EReal) = 0 := h0
  rw [hz, zero_add, ← List.sum_ofFn]
  rfl

/-! ## The host stages between the calls -/

variable (V : Valuation τ sig (Elt Ideal))

theorem h3_59 (b : Fin 2) (i : Fin 128) (n : Fin 512) :
    (StableHlo.after hostOps3 V (main_v59 : Ref sig .tc) : FVec Ideal S2x128x512 .f32) (ix3 b i n)
      = (V (main_v58 : Ref sig .tc) : FVec Ideal S256x512 .f32) (ix2 (⟨b.val * 128 + i.val, by omega⟩ : Fin 256) n) := by
  after_reads_at
  all_goals rfl

theorem h2_57 (r : Fin 256) (j : Fin 4096) :
    (StableHlo.after hostOps2 V (main_v57 : Ref sig .tc) : FVec Ideal S256x4096 .bf16) (ix2 r j)
      = (V (main_v54 : Ref sig .tc) : FVec Ideal S128x128x64 .bf16) (ix3 (⟨r.val / 128 * 64 + j.val / 64, by omega⟩ : Fin 128) (⟨r.val % 128, by omega⟩ : Fin 128) (⟨j.val % 64, by omega⟩ : Fin 64)) := by
  after_reads_at
  all_goals rfl

theorem h1_53 (g : Fin 128) (i : Fin 128) (d : Fin 64) :
    (StableHlo.after hostOps1 V (main_v53 : Ref sig .tc) : FVec Ideal S128x128x64 .bf16) (ix3 g i d)
      = (V (main_v50_0 : Ref sig .tc) : FVec Ideal S256x4096 .bf16) (ix2 (⟨g.val / 64 * 128 + i.val, by omega⟩ : Fin 256) (⟨g.val % 64 * 64 + d.val, by omega⟩ : Fin 4096)) := by
  after_reads_at
  all_goals rfl

end Cert.AllGather

end
-- ==== Proof.Hosts.lean ====
/-
  What the host code before the calls leaves, at one element, at exact real arithmetic: the device's activations, the codes and the
  scales of its rows of weights, and its batches of keys and values.
-/
module

public import proofs.«01_k».proof.Proof.Run
public import proofs.«01_k».proof.Proof.Spec
public import Idealize.ShloMosaic.Lib.Pointwise
public import Idealize.ShloMosaic.Lib.StableHlo.ReadAt

@[expose] public section

set_option maxRecDepth 16384

noncomputable section

namespace Cert.AllGather

open Cert.KernelIdeal Cert.KernelIdeal.Gen
open Idealize.ShloMosaic Idealize.ShloMosaic.TcCoe
open Idealize.SL.Sem

section Stretches

variable (V : Valuation τ sig (Elt Ideal))

/-! ## The first stretch: the rows and their scales -/

theorem h0_5 (c : Dev nD) (r : Fin 256) (t : Fin 512) :
    (StableHlo.after (hostOps0 c) V (main_v5 : Ref sig .tc) : FVec Ideal S256x512 .bf16) (ix2 r t)
      = (V (main_arg0 : Ref sig .tc) : FVec Ideal S2x128x512 .bf16) (ix3 (⟨r.val / 128, by omega⟩ : Fin 2) (⟨r.val % 128, by omega⟩ : Fin 128) t) := by
  after_reads_at
  all_goals rfl

theorem h0_4 (c : Dev nD) : (StableHlo.after (hostOps0 c) V (main_v4 : Ref sig .tc) : IVec S_ 32) ix0 = BitVec.ofNat 32 c.val := by
  after_reads_at
  revert c
  decide +kernel

theorem h0_12 (c : Dev nD) (r : Fin 256) :
    (StableHlo.after (hostOps0 c) V (main_v12 : Ref sig .tc) : FVec Ideal S256 .bf16) (ix1 r)
      = Spec.scale fun t : Fin 512 => ((V (main_arg1 : Ref sig .tc) : FVec Ideal S512x256 .bf16) (ix2 t r) : EReal) := by
  after_reads_at
  all_goals rfl

theorem h0_18 (c : Dev nD) (r : Fin 256) :
    (StableHlo.after (hostOps0 c) V (main_v18 : Ref sig .tc) : FVec Ideal S256 .bf16) (ix1 r)
      = Spec.scale fun t : Fin 512 => ((V (main_arg4 : Ref sig .tc) : FVec Ideal S256x512 .bf16) (ix2 r t) : EReal) := by
  after_reads_at
  all_goals rfl

theorem h0_21 (c : Dev nD) (r : Fin 256) (t : Fin 512) :
    (StableHlo.after (hostOps0 c) V (main_v21 : Ref sig .tc) : FVec Ideal S256x512 .bf16) (ix2 r t)
      = Ideal.div ((V (main_arg1 : Ref sig .tc) : FVec Ideal S512x256 .bf16) (ix2 t r))
        (Spec.scale fun t : Fin 512 => ((V (main_arg1 : Ref sig .tc) : FVec Ideal S512x256 .bf16) (ix2 t r) : EReal)) := by
  after_reads_at
  all_goals rfl

/-! ## The roundings and the codes -/

theorem h1_22 (r : Fin 256) (t : Fin 512) :
    (StableHlo.after hostOps0_1 V (main_v22 : Ref sig .tc) : FVec Ideal S256x512 .bf16) (ix2 r t)
      = Ideal.liftRound Ideal.roundHalfEven ((V (main_v21 : Ref sig .tc) : FVec Ideal S256x512 .bf16) (ix2 r t)) := by
  after_reads_at
  all_goals rfl

theorem h2_25 (r : Fin 256) (t : Fin 512) :
    (StableHlo.after hostOps0_2 V (main_v25 : Ref sig .tc) : IVec S256x512 8) (ix2 r t)
      = BitVec.setWidth 8 (Ideal.fptosi 32 ((V (main_v22 : Ref sig .tc) : FVec Ideal S256x512 .bf16) (ix2 r t))) := by
  after_reads_at
  all_goals rfl

theorem h2_28 (r : Fin 256) (t : Fin 512) :
    (StableHlo.after hostOps0_2 V (main_v28 : Ref sig .tc) : FVec Ideal S256x512 .bf16) (ix2 r t)
      = Ideal.div ((V (main_arg4 : Ref sig .tc) : FVec Ideal S256x512 .bf16) (ix2 r t)) ((V (main_v18 : Ref sig .tc) : FVec Ideal S256 .bf16) (ix1 r)) := by
  after_reads_at
  all_goals rfl

theorem h3_29 (r : Fin 256) (t : Fin 512) :
    (StableHlo.after hostOps0_3 V (main_v29 : Ref sig .tc) : FVec Ideal S256x512 .bf16) (ix2 r t)
      = Ideal.liftRound Ideal.roundHalfEven ((V (main_v28 : Ref sig .tc) : FVec Ideal S256x512 .bf16) (ix2 r t)) := by
  after_reads_at
  all_goals rfl

/-! ## The last stretch: the stacked rows and scales, the keys and the values -/

theorem h4_33_lo (r : Fin 256) (t : Fin 512) :
    (StableHlo.after hostOps0_4 V (main_v33 : Ref sig .tc) : IVec S512x512 8) (ix2 (⟨r.val, by omega⟩ : Fin 512) t)
      = (V (main_v25 : Ref sig .tc) : IVec S256x512 8) (ix2 r t) := by
  after_reads_at
  all_goals rw [dif_pos r.isLt]

theorem h4_33_hi (r : Fin 256) (t : Fin 512) :
    (StableHlo.after hostOps0_4 V (main_v33 : Ref sig .tc) : IVec S512x512 8) (ix2 (⟨256 + r.val, by omega⟩ : Fin 512) t)
      = BitVec.setWidth 8 (Ideal.fptosi 32 ((V (main_v29 : Ref sig .tc) : FVec Ideal S256x512 .bf16) (ix2 r t))) := by
  after_reads_at
  rfl

theorem up_12 : (StableHlo.upto hostOps0_4 V 4 (main_v12 : Ref sig .tc)) = V (main_v12 : Ref sig .tc) :=
  StableHlo.upto_unwritten [main_v30, main_v31, main_v32, main_v33] rfl (by decide) V
theorem up_18 : (StableHlo.upto hostOps0_4 V 4 (main_v18 : Ref sig .tc)) = V (main_v18 : Ref sig .tc) :=
  StableHlo.upto_unwritten [main_v30, main_v31, main_v32, main_v33] rfl (by decide) V

theorem h4_35_lo (r : Fin 256) :
    (StableHlo.after hostOps0_4 V (main_v36 : Ref sig .tc) : FVec Ideal S1x512 .f32) (ix2 0 (⟨r.val, by omega⟩ : Fin 512))
      = (V (main_v12 : Ref sig .tc) : FVec Ideal S256 .bf16) (ix1 r) := by
  after_reads_at
  rw [up_12]

theorem h4_35_hi (r : Fin 256) :
    (StableHlo.after hostOps0_4 V (main_v36 : Ref sig .tc) : FVec Ideal S1x512 .f32) (ix2 0 (⟨256 + r.val, by omega⟩ : Fin 512))
      = (V (main_v18 : Ref sig .tc) : FVec Ideal S256 .bf16) (ix1 r) := by
  after_reads_at
  rw [up_18]

/-- What a buffer not written any more holds: what it held before the rest of a line. -/
theorem upto_eq_after {ops : List (HloOp τ sig (Elt Ideal))} {n : ℕ} (W : List (Ref sig .tc)) {r : Ref sig .tc}
    (hW : (ops.drop n).map HloOp.writes = W.map fun w => {Proc.devRef (τ := τ) .tc w}) (hr : r ∉ W) :
    StableHlo.upto ops V n (Proc.devRef .tc r) = StableHlo.after ops V (Proc.devRef .tc r) := by
  have h : StableHlo.after ops V = StableHlo.after (ops.drop n) (StableHlo.after (ops.take n) V) := by
    conv_lhs => rw [← List.take_append_drop n ops]
    exact StableHlo.after_append _ _ _
  rw [h]
  exact (StableHlo.after_unwritten W hW hr _).symm

/-- The first batch of device `c`, as the host code computes it. -/
theorem first_batch (c : Fin 16) :
    (Scalar.select (IntOp.cmpi CmpIPredicate.slt (IntOp.muli (BitVec.ofNat 32 c.val) 2#32) 0#32)
      (IntOp.addi (IntOp.muli (BitVec.ofNat 32 c.val) 2#32) 32#32) (IntOp.muli (BitVec.ofNat 32 c.val) 2#32)).toInt = ((2 * c.val : ℕ) : ℤ) := by
  revert c
  decide +kernel

theorem h4_40 (c : Dev nD) (hc : (V (main_v4 : Ref sig .tc) : IVec S_ 32) ix0 = BitVec.ofNat 32 c.val) :
    ((StableHlo.after hostOps0_4 V (main_v40 : Ref sig .tc) : IVec S_ 32) ix0).toInt = ((2 * c.val : ℕ) : ℤ) := by
  have h : (StableHlo.after hostOps0_4 V (main_v40 : Ref sig .tc) : IVec S_ 32) ix0
      = Scalar.select (IntOp.cmpi CmpIPredicate.slt (IntOp.muli (BitVec.ofNat 32 c.val) 2#32) 0#32)
      (IntOp.addi (IntOp.muli (BitVec.ofNat 32 c.val) 2#32) 32#32) (IntOp.muli (BitVec.ofNat 32 c.val) 2#32) := by
    rw [← hc]
    after_reads_at
  rw [h]
  exact first_batch c

theorem h4_46 (c : Dev nD) (hc : (V (main_v4 : Ref sig .tc) : IVec S_ 32) ix0 = BitVec.ofNat 32 c.val) :
    ((StableHlo.after hostOps0_4 V (main_v46 : Ref sig .tc) : IVec S_ 32) ix0).toInt = ((2 * c.val : ℕ) : ℤ) := by
  have h : (StableHlo.after hostOps0_4 V (main_v46 : Ref sig .tc) : IVec S_ 32) ix0
      = Scalar.select (IntOp.cmpi CmpIPredicate.slt (IntOp.muli (BitVec.ofNat 32 c.val) 2#32) 0#32)
      (IntOp.addi (IntOp.muli (BitVec.ofNat 32 c.val) 2#32) 32#32) (IntOp.muli (BitVec.ofNat 32 c.val) 2#32) := by
    rw [← hc]
    after_reads_at
  rw [h]
  exact first_batch c

theorem h4_zero : ((StableHlo.after hostOps0_4 V (main_c_9 : Ref sig .tc) : IVec S_ 32) ix0).toInt = ((0 : ℕ) : ℤ)
    ∧ ((StableHlo.after hostOps0_4 V (main_c_10 : Ref sig .tc) : IVec S_ 32) ix0).toInt = ((0 : ℕ) : ℤ)
    ∧ ((StableHlo.after hostOps0_4 V (main_c_11 : Ref sig .tc) : IVec S_ 32) ix0).toInt = ((0 : ℕ) : ℤ)
    ∧ ((StableHlo.after hostOps0_4 V (main_c_14 : Ref sig .tc) : IVec S_ 32) ix0).toInt = ((0 : ℕ) : ℤ)
    ∧ ((StableHlo.after hostOps0_4 V (main_c_15 : Ref sig .tc) : IVec S_ 32) ix0).toInt = ((0 : ℕ) : ℤ)
    ∧ ((StableHlo.after hostOps0_4 V (main_c_16 : Ref sig .tc) : IVec S_ 32) ix0).toInt = ((0 : ℕ) : ℤ) := by
  refine ⟨?_, ?_, ?_, ?_, ?_, ?_⟩
  · have h : (StableHlo.after hostOps0_4 V (main_c_9 : Ref sig .tc) : IVec S_ 32) ix0 = 0#32 := by after_reads_at
    rw [h]; rfl
  · have h : (StableHlo.after hostOps0_4 V (main_c_10 : Ref sig .tc) : IVec S_ 32) ix0 = 0#32 := by after_reads_at
    rw [h]; rfl
  · have h : (StableHlo.after hostOps0_4 V (main_c_11 : Ref sig .tc) : IVec S_ 32) ix0 = 0#32 := by after_reads_at
    rw [h]; rfl
  · have h : (StableHlo.after hostOps0_4 V (main_c_14 : Ref sig .tc) : IVec S_ 32) ix0 = 0#32 := by after_reads_at
    rw [h]; rfl
  · have h : (StableHlo.after hostOps0_4 V (main_c_15 : Ref sig .tc) : IVec S_ 32) ix0 = 0#32 := by after_reads_at
    rw [h]; rfl
  · have h : (StableHlo.after hostOps0_4 V (main_c_16 : Ref sig .tc) : IVec S_ 32) ix0 = 0#32 := by after_reads_at
    rw [h]; rfl

theorem first_eq : (Shape.Idx.first h_S_ : S_.Idx) = ix0 := funext fun a => a.elim0

/-- What the last stretch writes after the first slice's indices are there, and after the second's. -/
def restK : List (Ref sig .tc) := [main_v41, main_v42, main_v43, main_c_12, main_v44, main_c_13, main_v45, main_v46, main_c_14, main_c_15, main_c_16, main_v47, main_v48, main_v49]
def restV : List (Ref sig .tc) := [main_v47, main_v48, main_v49]

theorem h4_43 (c : Dev nD) (hc : (V (main_v4 : Ref sig .tc) : IVec S_ 32) ix0 = BitVec.ofNat 32 c.val) (g i : Fin 128) (d : Fin 64) :
    (StableHlo.after hostOps0_4 V (main_v43 : Ref sig .tc) : FVec Ideal S128x128x64 .bf16) (ix3 g i d)
      = (V (main_arg2 : Ref sig .tc) : FVec Ideal S32x128x64x64 .bf16)
        (ix4 (⟨2 * c.val + g.val / 64, by have : c.val < 16 := c.isLt; omega⟩ : Fin 32) i (⟨g.val % 64, by omega⟩ : Fin 64) d) := by
  have z := h4_zero V
  after_reads_at
  refine congrArg (V (main_arg2 : Ref sig .tc)) (funext fun a => Fin.ext ?_)
  fin_cases a
  · refine congrArg (· + g.val / 64) (Host.clampedStart_of_le _ _ _ (2 * c.val) ?_ ?_)
    · rw [first_eq]
      show ((StableHlo.upto hostOps0_4 V 17 (Proc.devRef .tc main_v40) : IVec S_ 32) ix0).toInt = _
      rw [upto_eq_after V restK rfl (by decide)]
      exact h4_40 V c hc
    · have : c.val < 16 := c.isLt
      show 2 * c.val + 2 ≤ 32
      omega
  · refine (congrArg (· + i.val) (Host.clampedStart_of_le _ _ _ 0 ?_ ?_)).trans (Nat.zero_add _)
    · rw [first_eq]
      show ((StableHlo.upto hostOps0_4 V 17 (Proc.devRef .tc main_c_9) : IVec S_ 32) ix0).toInt = _
      rw [upto_eq_after V restK rfl (by decide)]
      exact z.1
    · show 0 + 128 ≤ 128
      omega
  · refine (congrArg (· + g.val % 64) (Host.clampedStart_of_le _ _ _ 0 ?_ ?_)).trans (Nat.zero_add _)
    · rw [first_eq]
      show ((StableHlo.upto hostOps0_4 V 17 (Proc.devRef .tc main_c_10) : IVec S_ 32) ix0).toInt = _
      rw [upto_eq_after V restK rfl (by decide)]
      exact z.2.1
    · show 0 + 64 ≤ 64
      omega
  · refine (congrArg (· + d.val) (Host.clampedStart_of_le _ _ _ 0 ?_ ?_)).trans (Nat.zero_add _)
    · rw [first_eq]
      show ((StableHlo.upto hostOps0_4 V 17 (Proc.devRef .tc main_c_11) : IVec S_ 32) ix0).toInt = _
      rw [upto_eq_after V restK rfl (by decide)]
      exact z.2.2.1
    · show 0 + 64 ≤ 64
      omega

theorem h4_49 (c : Dev nD) (hc : (V (main_v4 : Ref sig .tc) : IVec S_ 32) ix0 = BitVec.ofNat 32 c.val) (g i : Fin 128) (d : Fin 64) :
    (StableHlo.after hostOps0_4 V (main_v49 : Ref sig .tc) : FVec Ideal S128x128x64 .bf16) (ix3 g i d)
      = (V (main_arg3 : Ref sig .tc) : FVec Ideal S32x128x64x64 .bf16)
        (ix4 (⟨2 * c.val + g.val / 64, by have : c.val < 16 := c.isLt; omega⟩ : Fin 32) i (⟨g.val % 64, by omega⟩ : Fin 64) d) := by
  have z := h4_zero V
  after_reads_at
  refine congrArg (V (main_arg3 : Ref sig .tc)) (funext fun a => Fin.ext ?_)
  fin_cases a
  · refine congrArg (· + g.val / 64) (Host.clampedStart_of_le _ _ _ (2 * c.val) ?_ ?_)
    · rw [first_eq]
      show ((StableHlo.upto hostOps0_4 V 28 (Proc.devRef .tc main_v46) : IVec S_ 32) ix0).toInt = _
      rw [upto_eq_after V restV rfl (by decide)]
      exact h4_46 V c hc
    · have : c.val < 16 := c.isLt
      show 2 * c.val + 2 ≤ 32
      omega
  · refine (congrArg (· + i.val) (Host.clampedStart_of_le _ _ _ 0 ?_ ?_)).trans (Nat.zero_add _)
    · rw [first_eq]
      show ((StableHlo.upto hostOps0_4 V 28 (Proc.devRef .tc main_c_14) : IVec S_ 32) ix0).toInt = _
      rw [upto_eq_after V restV rfl (by decide)]
      exact z.2.2.2.1
    · show 0 + 128 ≤ 128
      omega
  · refine (congrArg (· + g.val % 64) (Host.clampedStart_of_le _ _ _ 0 ?_ ?_)).trans (Nat.zero_add _)
    · rw [first_eq]
      show ((StableHlo.upto hostOps0_4 V 28 (Proc.devRef .tc main_c_15) : IVec S_ 32) ix0).toInt = _
      rw [upto_eq_after V restV rfl (by decide)]
      exact z.2.2.2.2.1
    · show 0 + 64 ≤ 64
      omega
  · refine (congrArg (· + d.val) (Host.clampedStart_of_le _ _ _ 0 ?_ ?_)).trans (Nat.zero_add _)
    · rw [first_eq]
      show ((StableHlo.upto hostOps0_4 V 28 (Proc.devRef .tc main_c_16) : IVec S_ 32) ix0).toInt = _
      rw [upto_eq_after V restV rfl (by decide)]
      exact z.2.2.2.2.2
    · show 0 + 64 ≤ 64
      omega

end Stretches

/-! ## What the calls start from -/

section Entry

variable (m : (ℓ : Loc nD τ sig) → Buf (Elt Ideal) ℓ) (c : Dev nD)

/-- A device's row of the query weights, and of the output weights. -/
def rowQ (r : Fin 256) : Fin 512 → EReal := fun t => ((m ((c.tc : Thread nD τ).loc main_arg1) : FVec Ideal S512x256 .bf16) (ix2 t r) : EReal)
def rowO (r : Fin 256) : Fin 512 → EReal := fun t => ((m ((c.tc : Thread nD τ).loc main_arg4) : FVec Ideal S256x512 .bf16) (ix2 r t) : EReal)

theorem entry_x (r : Fin 256) (t : Fin 512) :
    (A₀ m c (main_v5 : Ref sig .tc) : FVec Ideal S256x512 .bf16) (ix2 r t)
      = (m ((c.tc : Thread nD τ).loc main_arg0) : FVec Ideal S2x128x512 .bf16) (ix3 (⟨r.val / 128, by omega⟩ : Fin 2) (⟨r.val % 128, by omega⟩ : Fin 128) t) := by
  have e : A₀ m c (main_v5 : Ref sig .tc) = V1 m c (main_v5 : Ref sig .tc) :=
    (V5_of m c main_v5 (by decide)).trans ((V4_of m c main_v5 (by decide)).trans ((V3_of m c main_v5 (by decide)).trans (V2_of m c main_v5 (by decide))))
  rw [e]
  exact h0_5 _ c r t

theorem entry_w_lo (r : Fin 256) (t : Fin 512) :
    (A₀ m c (main_v33 : Ref sig .tc) : IVec S512x512 8) (ix2 (⟨r.val, by omega⟩ : Fin 512) t) = Spec.code (rowQ m c r) t := by
  refine (h4_33_lo (V4 m c) r t).trans ?_
  rw [V4_of m c main_v25 (by decide)]
  refine (h2_25 (V2 m c) r t).trans (congrArg (fun z : EReal => BitVec.setWidth 8 (Ideal.fptosi 32 z)) ?_)
  refine (h1_22 (V1 m c) r t).trans (congrArg (Ideal.liftRound Ideal.roundHalfEven) ?_)
  exact h0_21 (V0 m c) c r t

theorem entry_w_hi (r : Fin 256) (t : Fin 512) :
    (A₀ m c (main_v33 : Ref sig .tc) : IVec S512x512 8) (ix2 (⟨256 + r.val, by omega⟩ : Fin 512) t) = Spec.code (rowO m c r) t := by
  refine (h4_33_hi (V4 m c) r t).trans (congrArg (fun z : EReal => BitVec.setWidth 8 (Ideal.fptosi 32 z)) ?_)
  refine (h3_29 (V3 m c) r t).trans (congrArg (Ideal.liftRound Ideal.roundHalfEven) ?_)
  refine (h2_28 (V2 m c) r t).trans ?_
  rw [V2_of m c main_arg4 (by decide), V1_of m c main_arg4 (by decide), V2_of m c main_v18 (by decide)]
  exact congrArg (Ideal.div _) (h0_18 (V0 m c) c r)

theorem entry_s_lo (r : Fin 256) :
    (A₀ m c (main_v36 : Ref sig .tc) : FVec Ideal S1x512 .f32) (ix2 0 (⟨r.val, by omega⟩ : Fin 512)) = Spec.scale (rowQ m c r) := by
  refine (h4_35_lo (V4 m c) r).trans ?_
  rw [V4_of m c main_v12 (by decide), V3_of m c main_v12 (by decide), V2_of m c main_v12 (by decide)]
  exact h0_12 (V0 m c) c r

theorem entry_s_hi (r : Fin 256) :
    (A₀ m c (main_v36 : Ref sig .tc) : FVec Ideal S1x512 .f32) (ix2 0 (⟨256 + r.val, by omega⟩ : Fin 512)) = Spec.scale (rowO m c r) := by
  refine (h4_35_hi (V4 m c) r).trans ?_
  rw [V4_of m c main_v18 (by decide), V3_of m c main_v18 (by decide), V2_of m c main_v18 (by decide)]
  exact h0_18 (V0 m c) c r

theorem entry_word : (V4 m c (main_v4 : Ref sig .tc) : IVec S_ 32) ix0 = BitVec.ofNat 32 c.val := by
  rw [V4_of m c main_v4 (by decide), V3_of m c main_v4 (by decide), V2_of m c main_v4 (by decide)]
  exact h0_4 (V0 m c) c

theorem entry_k (g i : Fin 128) (d : Fin 64) :
    (A₀ m c (main_v43 : Ref sig .tc) : FVec Ideal S128x128x64 .bf16) (ix3 g i d)
      = (m ((c.tc : Thread nD τ).loc main_arg2) : FVec Ideal S32x128x64x64 .bf16)
        (ix4 (⟨2 * c.val + g.val / 64, by have : c.val < 16 := c.isLt; omega⟩ : Fin 32) i (⟨g.val % 64, by omega⟩ : Fin 64) d) := by
  refine (h4_43 (V4 m c) c (entry_word m c) g i d).trans ?_
  rw [V4_of m c main_arg2 (by decide), V3_of m c main_arg2 (by decide), V2_of m c main_arg2 (by decide), V1_of m c main_arg2 (by decide)]

theorem entry_v (g i : Fin 128) (d : Fin 64) :
    (A₀ m c (main_v49 : Ref sig .tc) : FVec Ideal S128x128x64 .bf16) (ix3 g i d)
      = (m ((c.tc : Thread nD τ).loc main_arg3) : FVec Ideal S32x128x64x64 .bf16)
        (ix4 (⟨2 * c.val + g.val / 64, by have : c.val < 16 := c.isLt; omega⟩ : Fin 32) i (⟨g.val % 64, by omega⟩ : Fin 64) d) := by
  refine (h4_49 (V4 m c) c (entry_word m c) g i d).trans ?_
  rw [V4_of m c main_arg3 (by decide), V3_of m c main_arg3 (by decide), V2_of m c main_arg3 (by decide), V1_of m c main_arg3 (by decide)]

end Entry

end Cert.AllGather

end
-- ==== Proof.Value.lean ====
/-
  What the three calls leave, read at one element, at exact real arithmetic.
-/
module

public import proofs.«01_k».proof.Proof.Stages
public import proofs.«01_k».proof.Proof.Hosts
public import Idealize.ShloMosaic.Lib.Pipeline.ValueKit

@[expose] public section

set_option maxRecDepth 16384

noncomputable section

namespace Cert.AllGather

open Cert.KernelIdeal Cert.KernelIdeal.Gen
open Idealize.ShloMosaic Idealize.ShloMosaic.TcCoe
open Idealize.SL.Sem
open Idealize.ShloMosaic.ValueKit
open Idealize.ShloMosaic.Pipeline (Dat Cfg Window)

section Arrays

variable {F : FTy → Type} [FloatOps F] (V : Held F) (c : Dev nD)

/-! ## What was fetched whole -/

theorem xs_eq : xs V c = V c main_v5 :=
  Memref.read_access_unit_zero (Elt F) main_v5 (funext fun a => by fin_cases a <;> decide) (fun a => by fin_cases a <;> decide) _
theorem ws_eq : ws V c = V c main_v33 :=
  Memref.read_access_unit_zero (Elt F) main_v33 (funext fun a => by fin_cases a <;> decide) (fun a => by fin_cases a <;> decide) _
theorem ss_eq : ss V c = V c main_v36 :=
  Memref.read_access_unit_zero (Elt F) main_v36 (funext fun a => by fin_cases a <;> decide) (fun a => by fin_cases a <;> decide) _
theorem ctxIn_eq : ctxIn V c = V c main_v57 :=
  Memref.read_access_unit_zero (Elt F) main_v57 (funext fun a => by fin_cases a <;> decide) (fun a => by fin_cases a <;> decide) _
theorem wIn_eq : wIn V c = V c main_v50_1 :=
  Memref.read_access_unit_zero (Elt F) main_v50_1 (funext fun a => by fin_cases a <;> decide) (fun a => by fin_cases a <;> decide) _
theorem sIn_eq : sIn V c = V c main_v50_2 :=
  Memref.read_access_unit_zero (Elt F) main_v50_2 (funext fun a => by fin_cases a <;> decide) (fun a => by fin_cases a <;> decide) _

/-! ## The one-point calls' results -/

theorem final_q : (dat0 V c).arrAt (3 : Fin 6) cfg0.N = QOUT (xs V c) (WALL (ws V)) (SALL (ss V)) :=
  (dat0 V c).arrAt_eq_of_after_last (3 : Fin 6) t₀ (by decide +kernel) (QOUT (xs V c) (WALL (ws V)) (SALL (ss V))) (fun _ => rfl)
theorem final_w : (dat0 V c).arrAt (4 : Fin 6) cfg0.N = WALL (ws V) :=
  (dat0 V c).arrAt_eq_of_after_last (4 : Fin 6) t₀ (by decide +kernel) (WALL (ws V)) (fun _ => rfl)
theorem final_s : (dat0 V c).arrAt (5 : Fin 6) cfg0.N = SALL (ss V) :=
  (dat0 V c).arrAt_eq_of_after_last (5 : Fin 6) t₀ (by decide +kernel) (SALL (ss V)) (fun _ => rfl)
theorem final_o : (dat2 V c).arrAt (3 : Fin 4) cfg2.N = OUT (ctxIn V c) (wIn V c) (sIn V c) :=
  (dat2 V c).arrAt_eq_of_after_last (3 : Fin 4) t2_0 (by decide +kernel) (OUT (ctxIn V c) (wIn V c) (sIn V c)) (fun _ => rfl)

end Arrays

/-! ## The gathered rows and scales, and the products -/

section Read

variable (V : Held Ideal) (c : Dev nD)

theorem WALL_at (w : Dev nD → (cc0_stg1_0 : Ref sig .tc).ty.Contents (Elt Ideal)) (j : Fin 8192) (t : Fin 512) :
    WALL w (ix2 j t) = w (⟨j.val / 512, by omega⟩ : Fin 16) (ix2 (⟨j.val % 512, by omega⟩ : Fin 512) t) := by
  unfold WALL
  dsimp only
  refine congrArg (w _) (funext fun a => Fin.ext ?_)
  fin_cases a <;> rfl

theorem SALL_at (s : Dev nD → (cc0_stg2_0 : Ref sig .tc).ty.Contents (Elt Ideal)) (k : Fin 16) (r : Fin 512) :
    SALL s (ix2 k r) = s k (ix2 0 r) := by
  unfold SALL
  dsimp only
  refine congrArg (s _) (funext fun a => Fin.ext ?_)
  fin_cases a <;> rfl

theorem rowsOf_apply (A : (cc0_stg4_0 : Ref sig .tc).ty.Contents (Elt Ideal)) (k : Fin 16) (r : Fin 256) (t : Fin 512) :
    rowsOf A k (ix2 r t) = A (ix2 (⟨512 * k.val + r.val, by omega⟩ : Fin 8192) t) := by
  refine congrArg A (funext fun a => Fin.ext ?_)
  refine (ValueKit.view_emb_slice_whole_unit_val cc0_stg4_0 _ _ (inbW k) (ix2 r t) a).trans ?_
  fin_cases a
  · rfl
  · show 0 + t.val = t.val
    omega

theorem scalesOf_apply (B : (cc0_stg5_0 : Ref sig .tc).ty.Contents (Elt Ideal)) (k : Fin 16) (r : Fin 256) :
    scalesOf B k (ix2 0 r) = B (ix2 k (⟨r.val, by omega⟩ : Fin 512)) := by
  refine congrArg B (funext fun a => Fin.ext ?_)
  refine (ValueKit.view_emb_slice_whole_unit_val cc0_stg5_0 _ _ (inbS k) (ix2 0 r) a).trans ?_
  fin_cases a
  · show k.val + 0 = k.val
    omega
  · show 0 + r.val = r.val
    omega

theorem qBlk_apply (x : FVec Ideal S256x512 .bf16) (w : IVec S256x512 8) (s : FVec Ideal S1x256 .f32) (i r : Fin 256) :
    (qBlk (F := Ideal) x w s (ix2 i r) : EReal) = (∑ t : Fin 512, (x (ix2 i t) : EReal) * (((w (ix2 r t)).toInt : ℝ) : EReal)) * s (ix2 0 r) := by
  unfold qBlk k0_pay4 k0_pay3
  pointwise
  rfl

theorem QOUT_at (x : FVec Ideal S256x512 .bf16) (A : IVec S8192x512 8) (B : FVec Ideal S16x512 .f32) (i : Fin 256) (j : Fin 4096) :
    (QOUT (F := Ideal) x A B : FVec Ideal S256x4096 .bf16) (ix2 i j)
      = (∑ t : Fin 512, (x (ix2 i t) : EReal)
          * (((A (ix2 (⟨512 * (j.val / 256) + j.val % 256, by omega⟩ : Fin 8192) t)).toInt : ℝ) : EReal))
        * B (ix2 (⟨j.val / 256, by omega⟩ : Fin 16) (⟨j.val % 256, by omega⟩ : Fin 512)) := by
  unfold QOUT
  dsimp only
  refine (congrArg (qBlk (F := Ideal) x (rowsOf A (⟨j.val / 256, by omega⟩ : Fin 16)) (scalesOf B (⟨j.val / 256, by omega⟩ : Fin 16)))
    (show _ = ix2 i (⟨j.val % 256, by omega⟩ : Fin 256) from funext fun a => by fin_cases a <;> rfl)).trans ?_
  rw [qBlk_apply, scalesOf_apply]
  simp only [rowsOf_apply]

/-! ## The attention's array -/

/-- The contexts of all the heads of a device, from the whole arrays of its queries, keys and values. -/
def CTX (q k v : FVec Ideal S128x128x64 .bf16) : FVec Ideal S128x128x64 .bf16 := fun (y : S128x128x64.Idx) =>
  Spec.attn (fun i d => (q (ix3 (⟨(y 0).val, (y 0).isLt⟩ : Fin 128) i d) : EReal)) (fun i d => (k (ix3 (⟨(y 0).val, (y 0).isLt⟩ : Fin 128) i d) : EReal))
    (fun i d => (v (ix3 (⟨(y 0).val, (y 0).isLt⟩ : Fin 128) i d) : EReal)) ⟨(y 1).val, (y 1).isLt⟩ ⟨(y 2).val, (y 2).isLt⟩

theorem index1 : ∀ t : Fin grid1.N, win1_0.index t = ![t.val, 0, 0] ∧ win1_1.index t = ![t.val, 0, 0] ∧ win1_2.index t = ![t.val, 0, 0]
    ∧ win1_3.index t = ![t.val, 0, 0] := by decide +kernel

theorem qAt_at (t : Fin grid1.N) (g : Fin 32) (i : Fin 128) (d : Fin 64) :
    qAt V c t (ix3 g i d) = V c main_v53 (ix3 (⟨t.val * 32 + g.val, by have : t.val < 4 := t.isLt; omega⟩ : Fin 128) i d) := by
  unfold qAt
  blk_ext [index1 t]

theorem kAt_at (t : Fin grid1.N) (g : Fin 32) (i : Fin 128) (d : Fin 64) :
    kAt V c t (ix3 g i d) = V c main_v43 (ix3 (⟨t.val * 32 + g.val, by have : t.val < 4 := t.isLt; omega⟩ : Fin 128) i d) := by
  unfold kAt
  blk_ext [index1 t]

theorem vAt_at (t : Fin grid1.N) (g : Fin 32) (i : Fin 128) (d : Fin 64) :
    vAt V c t (ix3 g i d) = V c main_v49 (ix3 (⟨t.val * 32 + g.val, by have : t.val < 4 := t.isLt; omega⟩ : Fin 128) i d) := by
  unfold vAt
  blk_ext [index1 t]

theorem final_ctx : (dat1 V c).arrAt (3 : Fin 4) cfg1.N = CTX (V c main_v53) (V c main_v43) (V c main_v49) := by
  refine (dat1 V c).arrAt_eq_of_covers (3 : Fin 4) (CTX (V c main_v53) (V c main_v43) (V c main_v49)) (by decide +kernel) fun t hf y => ?_
  have ey : y = ix3 (⟨(y 0).val, (y 0).isLt⟩ : Fin 32) (⟨(y 1).val, (y 1).isLt⟩ : Fin 128) (⟨(y 2).val, (y 2).isLt⟩ : Fin 64) :=
    funext fun a => by fin_cases a <;> rfl
  have he : (win1_3.blk t).view.emb y = ix3 (⟨t.val * 32 + (y 0).val, by have : t.val < 4 := t.isLt; have : (y 0).val < 32 := (y 0).isLt; omega⟩ : Fin 128)
      (⟨(y 1).val, (y 1).isLt⟩ : Fin 128) (⟨(y 2).val, (y 2).isLt⟩ : Fin 64) := by blk_ext [index1 t]
  blk_simp
  rw [he, ey]
  refine (ATT_at (qAt V c t) (kAt V c t) (vAt V c t) _ _ _).trans ?_
  simp only [qAt_at, kAt_at, vAt_at]
  rfl

end Read

end Cert.AllGather

end
-- ==== Proof.RefStages.lean ====
/-
  Each stage of the reference at one element, at exact real arithmetic.
-/
module

public import proofs.«01_k».proof.Proof.Reference
public import proofs.«01_k».proof.Proof.Spec

@[expose] public section

set_option maxRecDepth 16384

noncomputable section

namespace Cert.ReferenceIdeal

open Cert.ReferenceIdeal.Gen
open Idealize.ShloMosaic Idealize.ShloMosaic.TcCoe
open Idealize.SL.Sem

theorem scales_at (W : FVec Ideal S4096x512 .bf16) (j : Fin 4096) :
    (scales W (ix2 j 0) : EReal) = Spec.scale fun t : Fin 512 => (W (ix2 j t) : EReal) := by
  pointwise [scales]
  rfl

theorem codes_at (W : FVec Ideal S4096x512 .bf16) (j : Fin 4096) (t : Fin 512) :
    codes W (ix2 j t) = Spec.code (fun t : Fin 512 => (W (ix2 j t) : EReal)) t := by
  pointwise [codes]
  rw [scales_at]
  rfl

theorem deq_at (W : FVec Ideal S4096x512 .bf16) (j : Fin 4096) (t : Fin 512) :
    (dequantised W (ix2 j t) : EReal) = Spec.deq (fun t : Fin 512 => (W (ix2 j t) : EReal)) t := by
  pointwise [dequantised]
  rw [scales_at, codes_at]
  refine congrArg (· * _) ?_
  show ((((BitVec.signExtend 32 _ : BitVec 32)).toInt : ℝ) : EReal) = _
  rw [BitVec.toInt_signExtend_of_le (by decide)]
  rfl

theorem rowsQ_at (Wq : FVec Ideal S512x4096 .bf16) (j : Fin 4096) (t : Fin 512) : (rowsQ Wq (ix2 j t) : EReal) = Wq (ix2 t j) := by
  pointwise [rowsQ]

theorem queries_at (X : FVec Ideal S32x128x512 .bf16) (D : FVec Ideal S4096x512 .f32) (b : Fin 32) (i : Fin 128) (h d : Fin 64) :
    (queries X D (ix4 b i h d) : EReal) = ∑ t : Fin 512, (X (ix3 b i t) : EReal) * D (ix2 (⟨h.val * 64 + d.val, by omega⟩ : Fin 4096) t) := by
  pointwise [queries]

theorem blockOf_at (i : Fin 128) : blockOf (ix1 i) = Spec.blk i := by
  pointwise [blockOf]
  revert i
  decide +kernel

theorem seen_at (i j : Fin 128) : seen (ix2 i j) = IntOp.cmpi .sle (Spec.blk j) (Spec.blk i) := by
  pointwise [seen]
  rw [blockOf_at, blockOf_at]

theorem kept_at (i : Fin 128) : kept (ix1 i) = 1#1 := by
  pointwise [kept]
  simp only [seen_at]
  revert i
  decide +kernel

theorem scores_at (Q K : FVec Ideal S32x128x64x64 .bf16) (b : Fin 32) (h : Fin 64) (i j : Fin 128) :
    (scores Q K (ix4 b h i j) : EReal)
      = Spec.score (fun i x => (Q (ix4 b i h x) : EReal)) (fun i x => (K (ix4 b i h x) : EReal)) i j := by
  pointwise [scores]
  rw [seen_at]
  rfl

theorem exps_at (S : FVec Ideal S32x64x128x128 .f32) (b : Fin 32) (h : Fin 64) (i j : Fin 128) :
    (exps S (ix4 b h i j) : EReal) = Ideal.exp ((S (ix4 b h i j) : EReal) - Spec.top fun x : Fin 128 => (S (ix4 b h i x) : EReal)) := by
  pointwise [exps]
  rfl

theorem weights_at (E : FVec Ideal S32x64x128x128 .f32) (b : Fin 32) (h : Fin 64) (i j : Fin 128) :
    (weights E (ix4 b h i j) : EReal) = Ideal.div (E (ix4 b h i j)) (∑ x : Fin 128, (E (ix4 b h i x) : EReal)) := by
  pointwise [weights]
  rw [kept_at]
  rfl

theorem contexts_at (V : FVec Ideal S32x128x64x64 .bf16) (P : FVec Ideal S32x64x128x128 .f32) (r j : Fin 4096) :
    (contexts V P (ix2 r j) : EReal)
      = ∑ x : Fin 128, (P (ix4 (⟨r.val / 128, by omega⟩ : Fin 32) (⟨j.val / 64, by omega⟩ : Fin 64) (⟨r.val % 128, by omega⟩ : Fin 128) x) : EReal)
        * V (ix4 (⟨r.val / 128, by omega⟩ : Fin 32) x (⟨j.val / 64, by omega⟩ : Fin 64) (⟨j.val % 64, by omega⟩ : Fin 64)) := by
  pointwise [contexts]
  exact Finset.sum_congr rfl fun x _ => EReal.mul_comm _ _

theorem projected_at (C : FVec Ideal S4096x4096 .f32) (D : FVec Ideal S4096x512 .f32) (b : Fin 32) (i : Fin 128) (n : Fin 512) :
    (projected C D (ix3 b i n) : EReal)
      = ∑ j : Fin 4096, (C (ix2 (⟨b.val * 128 + i.val, by omega⟩ : Fin 4096) j) : EReal) * D (ix2 j n) := by
  pointwise [projected]

end Cert.ReferenceIdeal

end
-- ==== Proof.RefValue.lean ====
/-
  The reference's result at one element, at exact real arithmetic.
-/
module

public import proofs.«01_k».proof.Proof.RefStages

@[expose] public section

set_option maxRecDepth 16384

noncomputable section

namespace Cert.ReferenceIdeal

open Cert.ReferenceIdeal.Gen
open Idealize.ShloMosaic Idealize.ShloMosaic.TcCoe
open Idealize.SL.Sem

/-! ## The result at one element -/

variable (X : FVec Ideal S32x128x512 .bf16) (Wq : FVec Ideal S512x4096 .bf16) (K V : FVec Ideal S32x128x64x64 .bf16)
  (Wo : FVec Ideal S4096x512 .bf16)

/-- A query. -/
def q (b : Fin 32) (h : Fin 64) (i : Fin 128) (d : Fin 64) : EReal :=
  ∑ t : Fin 512, (X (ix3 b i t) : EReal) * Spec.deq (fun t : Fin 512 => (Wq (ix2 t (⟨h.val * 64 + d.val, by omega⟩ : Fin 4096)) : EReal)) t

/-- A context: position `i` of batch `b`, head `h`. -/
def ctx (b : Fin 32) (h : Fin 64) (i : Fin 128) (d : Fin 64) : EReal :=
  Spec.attn (q X Wq b h) (fun i d => (K (ix4 b i h d) : EReal)) (fun i d => (V (ix4 b i h d) : EReal)) i d

theorem contexts_result (b : Fin 32) (i : Fin 128) (j : Fin 4096) (r : Fin 4096) (hr : r.val = b.val * 128 + i.val) :
    (contexts V (weights (exps (scores (queries X (dequantised (rowsQ Wq))) K))) (ix2 r j) : EReal)
      = ctx X Wq K V b (⟨j.val / 64, by omega⟩ : Fin 64) i (⟨j.val % 64, by omega⟩ : Fin 64) := by
  have hb : (⟨r.val / 128, by omega⟩ : Fin 32) = b := Fin.ext (by show r.val / 128 = b.val; omega)
  have hi : (⟨r.val % 128, by omega⟩ : Fin 128) = i := Fin.ext (by show r.val % 128 = i.val; omega)
  rw [contexts_at, hb, hi]
  unfold ctx Spec.attn
  refine Finset.sum_congr rfl fun x _ => congrArg (fun z : EReal => z * V (ix4 b x (⟨j.val / 64, by omega⟩ : Fin 64) (⟨j.val % 64, by omega⟩ : Fin 64))) ?_
  have hq : ∀ (i : Fin 128) (h d : Fin 64), (queries X (dequantised (rowsQ Wq)) (ix4 b i h d) : EReal) = q X Wq b h i d := fun i h d => by
    rw [queries_at]
    refine Finset.sum_congr rfl fun t _ => congrArg (fun z : EReal => (X (ix3 b i t) : EReal) * z) ?_
    rw [deq_at]
    simp only [rowsQ_at]
  rw [weights_at]
  simp only [exps_at, scores_at, hq]
  rfl

theorem result_at (b : Fin 32) (i : Fin 128) (n : Fin 512) :
    (result X Wq K V Wo (ix3 b i n) : EReal)
      = ∑ j : Fin 4096, ctx X Wq K V b (⟨j.val / 64, by omega⟩ : Fin 64) i (⟨j.val % 64, by omega⟩ : Fin 64)
        * Spec.deq (fun t : Fin 512 => (Wo (ix2 j t) : EReal)) n := by
  unfold result
  rw [projected_at]
  refine Finset.sum_congr rfl fun j _ => ?_
  rw [contexts_result X Wq K V b i j _ rfl, deq_at]

end Cert.ReferenceIdeal

end
-- ==== Proof.Product.lean ====
/-
  The kernel's result on a device and the reference's, at exact real arithmetic: a device's rows of the one are its block of the other.
-/
module

public import proofs.«01_k».proof.Proof.Value
public import proofs.«01_k».proof.Proof.RefValue
public import Idealize.ShloMosaic.Lib.Layout

@[expose] public section

set_option maxRecDepth 16384

noncomputable section

namespace Cert.AllGather

open Cert.KernelIdeal Cert.KernelIdeal.Gen
open Idealize.ShloMosaic Idealize.ShloMosaic.TcCoe
open Idealize.SL.Sem
open Idealize.ShloMosaic.ValueKit

variable (m : (ℓ : Loc nD τ sig) → Buf (Elt Ideal) ℓ)

/-! ## The gathered codes and scales -/

theorem wall_q (j : Fin 4096) (t : Fin 512) :
    WALL (ws (A₀ m)) (ix2 (⟨512 * (j.val / 256) + j.val % 256, by omega⟩ : Fin 8192) t)
      = Spec.code (rowQ m (⟨j.val / 256, by omega⟩ : Fin 16) (⟨j.val % 256, by omega⟩ : Fin 256)) t := by
  have hk : (⟨(512 * (j.val / 256) + j.val % 256) / 512, by omega⟩ : Fin 16) = ⟨j.val / 256, by omega⟩ := Fin.ext (by dsimp only; omega)
  have hr : (⟨(512 * (j.val / 256) + j.val % 256) % 512, by omega⟩ : Fin 512) = ⟨j.val % 256, by omega⟩ := Fin.ext (by dsimp only; omega)
  rw [WALL_at, hk, hr, ws_eq]
  exact entry_w_lo m _ (⟨j.val % 256, by omega⟩ : Fin 256) t

theorem wall_o (k : Fin 16) (x : Fin 256) (n : Fin 512) :
    WALL (ws (A₀ m)) (ix2 (⟨512 * k.val + 256 + x.val, by omega⟩ : Fin 8192) n) = Spec.code (rowO m k x) n := by
  have hk : (⟨(512 * k.val + 256 + x.val) / 512, by omega⟩ : Fin 16) = k := Fin.ext (by dsimp only; omega)
  have hr : (⟨(512 * k.val + 256 + x.val) % 512, by omega⟩ : Fin 512) = ⟨256 + x.val, by omega⟩ := Fin.ext (by dsimp only; omega)
  rw [WALL_at, hk, hr, ws_eq]
  exact entry_w_hi m k x n

theorem sall_q (j : Fin 4096) :
    SALL (ss (A₀ m)) (ix2 (⟨j.val / 256, by omega⟩ : Fin 16) (⟨j.val % 256, by omega⟩ : Fin 512))
      = Spec.scale (rowQ m (⟨j.val / 256, by omega⟩ : Fin 16) (⟨j.val % 256, by omega⟩ : Fin 256)) := by
  rw [SALL_at, ss_eq]
  exact entry_s_lo m _ (⟨j.val % 256, by omega⟩ : Fin 256)

theorem sall_o (k : Fin 16) (x : Fin 256) :
    SALL (ss (A₀ m)) (ix2 k (⟨256 + x.val, by omega⟩ : Fin 512)) = Spec.scale (rowO m k x) := by
  rw [SALL_at, ss_eq]
  exact entry_s_hi m k x

theorem sum_mul_swap (f u v : Fin 512 → EReal) (z : EReal) (h : ∀ t, u t = v t) : (∑ t, f t * u t) * z = (∑ t, f t * v t) * z := by
  rw [funext h]

/-! ## Against the whole arrays -/

variable (X : FVec Ideal Cert.ReferenceIdeal.S32x128x512 .bf16) (Wq : FVec Ideal Cert.ReferenceIdeal.S512x4096 .bf16)
  (K W : FVec Ideal Cert.ReferenceIdeal.S32x128x64x64 .bf16) (Wo : FVec Ideal Cert.ReferenceIdeal.S4096x512 .bf16)

theorem block_x (hx : ∀ c : Dev nD, m ((c.tc : Thread nD τ).loc main_arg0) = Layout.block ⟨3, ![2, 128, 512]⟩ ⟨3, ![32, 128, 512]⟩ 0 16 c X)
    (c : Dev nD) (b : Fin 2) (i : Fin 128) (t : Fin 512) :
    (m ((c.tc : Thread nD τ).loc main_arg0) : FVec Ideal S2x128x512 .bf16) (ix3 b i t)
      = X (ix3 (⟨2 * c.val + b.val, by have : c.val < 16 := c.isLt; omega⟩ : Fin 32) i t) := by
  rw [hx, Layout.block_apply]
  refine congrArg X (funext fun a => Fin.ext ?_)
  fin_cases a
  · show c.val * 2 + b.val = 2 * c.val + b.val
    omega
  · rfl
  · rfl

theorem block_q (hq : ∀ c : Dev nD, m ((c.tc : Thread nD τ).loc main_arg1) = Layout.block ⟨2, ![512, 256]⟩ ⟨2, ![512, 4096]⟩ 1 16 c Wq)
    (k : Fin 16) (r : Fin 256) : rowQ m k r = fun t => (Wq (ix2 t (⟨256 * k.val + r.val, by omega⟩ : Fin 4096)) : EReal) := by
  funext t
  unfold rowQ
  rw [hq, Layout.block_apply]
  refine congrArg Wq (funext fun a => Fin.ext ?_)
  fin_cases a
  · rfl
  · show k.val * 256 + r.val = 256 * k.val + r.val
    omega

theorem block_o (ho : ∀ c : Dev nD, m ((c.tc : Thread nD τ).loc main_arg4) = Layout.block ⟨2, ![256, 512]⟩ ⟨2, ![4096, 512]⟩ 0 16 c Wo)
    (k : Fin 16) (r : Fin 256) : rowO m k r = fun t => (Wo (ix2 (⟨k.val * 256 + r.val, by omega⟩ : Fin 4096) t) : EReal) := by
  funext t
  unfold rowO
  rw [ho, Layout.block_apply]
  refine congrArg Wo (funext fun a => Fin.ext ?_)
  fin_cases a <;> rfl

section Whole

variable (hx : ∀ c : Dev nD, m ((c.tc : Thread nD τ).loc main_arg0) = Layout.block ⟨3, ![2, 128, 512]⟩ ⟨3, ![32, 128, 512]⟩ 0 16 c X)
  (hq : ∀ c : Dev nD, m ((c.tc : Thread nD τ).loc main_arg1) = Layout.block ⟨2, ![512, 256]⟩ ⟨2, ![512, 4096]⟩ 1 16 c Wq)
  (hk : ∀ c : Dev nD, m ((c.tc : Thread nD τ).loc main_arg2) = K)
  (hv : ∀ c : Dev nD, m ((c.tc : Thread nD τ).loc main_arg3) = W)
  (ho : ∀ c : Dev nD, m ((c.tc : Thread nD τ).loc main_arg4) = Layout.block ⟨2, ![256, 512]⟩ ⟨2, ![4096, 512]⟩ 0 16 c Wo)
  (c : Dev nD)

include hx hq in
/-- The queries a device attends with. -/
theorem queries_eq (g i : Fin 128) (d : Fin 64) (b : Fin 32) (h : Fin 64) (hb : b.val = 2 * c.val + g.val / 64) (hh : h.val = g.val % 64) :
    (B₀ m c (main_v53 : Ref sig .tc) : FVec Ideal S128x128x64 .bf16) (ix3 g i d) = Cert.ReferenceIdeal.q X Wq b h i d := by
  refine (h1_53 (out0 (A₀ m) c) g i d).trans ?_
  rw [out0_q, final_q]
  refine (QOUT_at _ _ _ _ _).trans ?_
  rw [sall_q]
  have e : ∀ t : Fin 512, (((WALL (ws (A₀ m)) (ix2 (⟨512 * ((g.val % 64 * 64 + d.val) / 256) + (g.val % 64 * 64 + d.val) % 256, by omega⟩ : Fin 8192) t)).toInt : ℝ) : EReal)
      = Spec.val (rowQ m (⟨(g.val % 64 * 64 + d.val) / 256, by omega⟩ : Fin 16) (⟨(g.val % 64 * 64 + d.val) % 256, by omega⟩ : Fin 256)) t := fun t => by
    rw [wall_q m (⟨g.val % 64 * 64 + d.val, by omega⟩ : Fin 4096) t]
    rfl
  refine (sum_mul_swap (fun t => xs (A₀ m) c (ix2 (⟨g.val / 64 * 128 + i.val, by omega⟩ : Fin 256) t)) _ _ _ e).trans ?_
  refine (Spec.sum_deq _ _).trans ?_
  unfold Cert.ReferenceIdeal.q
  refine Finset.sum_congr rfl fun t _ => ?_
  rw [block_q m Wq hq, xs_eq, entry_x, block_x m X hx]
  have e1 : (⟨2 * c.val + (g.val / 64 * 128 + i.val) / 128, by have : c.val < 16 := c.isLt; omega⟩ : Fin 32) = b := Fin.ext (by dsimp only; omega)
  have e2 : (⟨(g.val / 64 * 128 + i.val) % 128, by omega⟩ : Fin 128) = i := Fin.ext (by dsimp only; omega)
  have e3 : (⟨256 * ((g.val % 64 * 64 + d.val) / 256) + (g.val % 64 * 64 + d.val) % 256, by omega⟩ : Fin 4096) = ⟨h.val * 64 + d.val, by omega⟩ :=
    Fin.ext (by dsimp only; omega)
  rw [e1, e2, e3]

include hk in
theorem keys_eq (g i : Fin 128) (d : Fin 64) (b : Fin 32) (h : Fin 64) (hb : b.val = 2 * c.val + g.val / 64) (hh : h.val = g.val % 64) :
    (B₀ m c (main_v43 : Ref sig .tc) : FVec Ideal S128x128x64 .bf16) (ix3 g i d) = K (ix4 b i h d) := by
  have e : B₀ m c (main_v43 : Ref sig .tc) = A₀ m c (main_v43 : Ref sig .tc) :=
    (StableHlo.after_of_writes_sub hostOps1 _ hostOps1_writes (by decide)).trans
      (out0_of (A₀ m) c _ (ref_ne (by decide)) (ref_ne (by decide)) (ref_ne (by decide)))
  rw [e, entry_k, hk]
  have e1 : (⟨2 * c.val + g.val / 64, by have : c.val < 16 := c.isLt; omega⟩ : Fin 32) = b := Fin.ext hb.symm
  have e2 : (⟨g.val % 64, by omega⟩ : Fin 64) = h := Fin.ext hh.symm
  rw [e1, e2]

include hv in
theorem values_eq (g i : Fin 128) (d : Fin 64) (b : Fin 32) (h : Fin 64) (hb : b.val = 2 * c.val + g.val / 64) (hh : h.val = g.val % 64) :
    (B₀ m c (main_v49 : Ref sig .tc) : FVec Ideal S128x128x64 .bf16) (ix3 g i d) = W (ix4 b i h d) := by
  have e : B₀ m c (main_v49 : Ref sig .tc) = A₀ m c (main_v49 : Ref sig .tc) :=
    (StableHlo.after_of_writes_sub hostOps1 _ hostOps1_writes (by decide)).trans
      (out0_of (A₀ m) c _ (ref_ne (by decide)) (ref_ne (by decide)) (ref_ne (by decide)))
  rw [e, entry_v, hv]
  have e1 : (⟨2 * c.val + g.val / 64, by have : c.val < 16 := c.isLt; omega⟩ : Fin 32) = b := Fin.ext hb.symm
  have e2 : (⟨g.val % 64, by omega⟩ : Fin 64) = h := Fin.ext hh.symm
  rw [e1, e2]

include hx hq hk hv in
/-- The contexts a device projects. -/
theorem contexts_eq (r : Fin 256) (j : Fin 4096) (b : Fin 32) (i : Fin 128) (hb : b.val = 2 * c.val + r.val / 128) (hi : i.val = r.val % 128) :
    (C₀ m c (main_v57 : Ref sig .tc) : FVec Ideal S256x4096 .bf16) (ix2 r j)
      = Cert.ReferenceIdeal.ctx X Wq K W b (⟨j.val / 64, by omega⟩ : Fin 64) i (⟨j.val % 64, by omega⟩ : Fin 64) := by
  refine (h2_57 (out1 (B₀ m) c) r j).trans ?_
  rw [out1_ctx, final_ctx]
  have e2 : (⟨r.val % 128, by omega⟩ : Fin 128) = i := Fin.ext hi.symm
  rw [e2]
  unfold Cert.ReferenceIdeal.ctx
  let g : Fin 128 := ⟨r.val / 128 * 64 + j.val / 64, by omega⟩
  have hb' : b.val = 2 * c.val + g.val / 64 := by show b.val = 2 * c.val + (r.val / 128 * 64 + j.val / 64) / 64; omega
  have hh' : (⟨j.val / 64, by omega⟩ : Fin 64).val = g.val % 64 := by show j.val / 64 = (r.val / 128 * 64 + j.val / 64) % 64; omega
  have hQ : (fun i d => ((B₀ m c (main_v53 : Ref sig .tc) : FVec Ideal S128x128x64 .bf16) (ix3 g i d) : EReal))
      = Cert.ReferenceIdeal.q X Wq b (⟨j.val / 64, by omega⟩ : Fin 64) :=
    funext fun i => funext fun d => queries_eq m X Wq hx hq c g i d b _ hb' hh'
  have hK : (fun i d => ((B₀ m c (main_v43 : Ref sig .tc) : FVec Ideal S128x128x64 .bf16) (ix3 g i d) : EReal))
      = fun i d => (K (ix4 b i (⟨j.val / 64, by omega⟩ : Fin 64) d) : EReal) :=
    funext fun i => funext fun d => keys_eq m K hk c g i d b _ hb' hh'
  have hV : (fun i d => ((B₀ m c (main_v49 : Ref sig .tc) : FVec Ideal S128x128x64 .bf16) (ix3 g i d) : EReal))
      = fun i d => (W (ix4 b i (⟨j.val / 64, by omega⟩ : Fin 64) d) : EReal) :=
    funext fun i => funext fun d => values_eq m W hv c g i d b _ hb' hh'
  show Spec.attn (fun i d => ((B₀ m c (main_v53 : Ref sig .tc) : FVec Ideal S128x128x64 .bf16) (ix3 g i d) : EReal))
    (fun i d => ((B₀ m c (main_v43 : Ref sig .tc) : FVec Ideal S128x128x64 .bf16) (ix3 g i d) : EReal))
    (fun i d => ((B₀ m c (main_v49 : Ref sig .tc) : FVec Ideal S128x128x64 .bf16) (ix3 g i d) : EReal)) i (⟨j.val % 64, by omega⟩ : Fin 64) = _
  rw [hQ, hK, hV]

theorem codes_kept : C₀ m c (main_v50_1 : Ref sig .tc) = WALL (ws (A₀ m)) :=
  (StableHlo.after_of_writes_sub hostOps2 _ hostOps2_writes (by decide)).trans
    ((out1_of (B₀ m) c _ (ref_ne (by decide))).trans
      ((StableHlo.after_of_writes_sub hostOps1 _ hostOps1_writes (by decide)).trans ((out0_w (A₀ m) c).trans (final_w (A₀ m) c))))

theorem scales_kept : C₀ m c (main_v50_2 : Ref sig .tc) = SALL (ss (A₀ m)) :=
  (StableHlo.after_of_writes_sub hostOps2 _ hostOps2_writes (by decide)).trans
    ((out1_of (B₀ m) c _ (ref_ne (by decide))).trans
      ((StableHlo.after_of_writes_sub hostOps1 _ hostOps1_writes (by decide)).trans ((out0_s (A₀ m) c).trans (final_s (A₀ m) c))))

include hx hq hk hv ho in
/-- A device's result at one element is the reference's. -/
theorem result_eq (b' : Fin 2) (i : Fin 128) (n : Fin 512) (b : Fin 32) (hb : b.val = 2 * c.val + b'.val) :
    (D₀ m c (main_v59 : Ref sig .tc) : FVec Ideal S2x128x512 .f32) (ix3 b' i n) = Cert.ReferenceIdeal.result X Wq K W Wo (ix3 b i n) := by
  refine (h3_59 (out2 (C₀ m) c) b' i n).trans ?_
  rw [out2_o, final_o]
  refine (OUT_at _ _ _ _ _).trans ?_
  refine Eq.trans ?_ (Cert.ReferenceIdeal.result_at X Wq K W Wo b i n).symm
  simp only [outTerm_at]
  refine Fin.sum_mul_add_congr (S := 16) (n := 256) fun k x hl => ?_
  rw [ctxIn_eq, wIn_eq, sIn_eq, codes_kept, scales_kept, sall_o, wall_o,
    contexts_eq m X Wq K W hx hq hk hv c _ _ b i (by dsimp only; omega) (by dsimp only; omega), block_o m Wo ho]
  unfold Spec.deq
  refine (mul_assoc (_ : EReal) _ _).trans (congrArg _ (EReal.mul_comm _ _))

include hx hq hk hv ho in
/-- A device's result is its block of the reference's. -/
theorem whole_eq : D₀ m c (main_v59 : Ref sig .tc)
    = Layout.block ⟨3, ![2, 128, 512]⟩ ⟨3, ![32, 128, 512]⟩ 0 16 c (Cert.ReferenceIdeal.result X Wq K W Wo) := by
  funext (y : S2x128x512.Idx)
  have hc : c.val < 16 := c.isLt
  have h0 : (y 0).val < 2 := (y 0).isLt
  have ey : y = ix3 (⟨(y 0).val, (y 0).isLt⟩ : Fin 2) (⟨(y 1).val, (y 1).isLt⟩ : Fin 128) (⟨(y 2).val, (y 2).isLt⟩ : Fin 512) :=
    funext fun a => by fin_cases a <;> rfl
  rw [Layout.block_apply]
  have e : Layout.Tiles.idx (S := ⟨3, ![2, 128, 512]⟩) (T := ⟨3, ![32, 128, 512]⟩) (a := 0) (k := 16) (by decide) c y
      = ix3 (⟨2 * c.val + (y 0).val, by omega⟩ : Fin 32) (⟨(y 1).val, (y 1).isLt⟩ : Fin 128) (⟨(y 2).val, (y 2).isLt⟩ : Fin 512) :=
    funext fun a => Fin.ext (by
      fin_cases a
      · show c.val * 2 + (y 0).val = 2 * c.val + (y 0).val
        omega
      · rfl
      · rfl)
  rw [e]
  refine (congrArg _ ey).trans ?_
  exact result_eq m X Wq K W Wo hx hq hk hv ho c _ _ _ _ rfl

end Whole

end Cert.AllGather

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Reference
public import proofs.«01_k».proof.Proof.Product
public import Idealize.ShloMosaic.Lib.Pipeline.Regions
public import Idealize.ShloMosaic.Adequacy
public import Idealize.ShloMosaic.Init

@[expose] public section

noncomputable section

namespace Cert.Proof

open Idealize.ShloMosaic Idealize.SL.Sem

/-- The kernel runs, for any float values, and leaves its arguments and its semaphores as they were. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1.2, h.2⟩) (Cert.AllGather.run_main m ρ)

/-- The two programs have one body table. -/
theorem defs₀_eq : Cert.Kernel.defs₀ (F := Bits) = Cert.KernelIdeal.defs₀ (F := Bits) := by chain_rfl

theorem defs_eq : Cert.Kernel.defs (F := Bits) = Cert.KernelIdeal.defs (F := Bits) :=
  congrArg (Pipeline.defs Cert.KernelIdeal.pcfgs) defs₀_eq

theorem main_part0_eq : Cert.Kernel.main_part0 (F := Bits) = Cert.KernelIdeal.main_part0 (F := Bits) := by chain_rfl

theorem main_part1_eq : Cert.Kernel.main_part1 (F := Bits) = Cert.KernelIdeal.main_part1 (F := Bits) := by chain_rfl

theorem main_eq : Cert.Kernel.main (F := Bits) = Cert.KernelIdeal.main (F := Bits) := funext fun d =>
  congrArg₂ (fun (p q : Prog (TpuEff Cert.KernelIdeal.nD Cert.KernelIdeal.τ Cert.KernelIdeal.sig (Elt Bits)
      (Pipeline.Sig Cert.KernelIdeal.Λ₀ (Fin 3) fun p => (Cert.KernelIdeal.pcfgs (F := Bits) p).Adm) .tc) PUnit) => do p; q)
    (congrFun main_part0_eq d) (congrFun main_part1_eq d)

theorem frame_kernel : Cert.quiescent_Kernel := fun m ρ _ => by
  rw [defs_eq, main_eq]
  exact frame_any (F := Bits) m ρ

theorem frame_kernelIdeal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's. -/
theorem algebraic : Cert.algebraic_KernelIdeal_ReferenceIdeal := by
  intro m ρ m' ρ' _ hagree
  refine ⟨Cert.ReferenceIdeal.result (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3))
    (m' (((0 : Dev Cert.ReferenceIdeal.nD).tc : Thread _ Cert.ReferenceIdeal.τ).loc Cert.ReferenceIdeal.main_arg4)), ?_, ?_⟩
  · exact (θ_run Cert.KernelIdeal.defs _ _).mono (fun r h c => ⟨(h.1 c).1.1.trans
        (Cert.AllGather.whole_eq m _ _ _ _ _ (fun c => (hagree c).1) (fun c => (hagree c).2.1) (fun c => (hagree c).2.2.1)
          (fun c => (hagree c).2.2.2.1) (fun c => (hagree c).2.2.2.2) c),
      (h.1 c).1.2⟩) (Cert.AllGather.run_main (F := Ideal) m ρ)
  · exact (θ_run Cert.ReferenceIdeal.defs _ _).mono (fun r h => ⟨(h 0).1.trans (Cert.ReferenceIdeal.result_eq m' 0), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
